-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shift_finite [hPre_shift_finite : Cert.Pre_shift_finite.Facts] (m : (ℓ : Loc Cert.KernelIdeal.nD Cert.KernelIdeal.τ Cert.KernelIdeal.sig) → Buf (Elt Ideal) ℓ) : Prop :=
  ∀ c : Dev Cert.KernelIdeal.nD,
    (Cert.Pre_shift_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shift_finite [hPre_shift_finite : Cert.Pre_shift_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shift_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_shift_finite [hKernelIdeal : Cert.KernelIdeal.Facts] [hPre_shift_finite : Cert.Pre_shift_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shift_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_shift_finite [hReferenceIdeal : Cert.ReferenceIdeal.Facts] [hPre_shift_finite : Cert.Pre_shift_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shift_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "ln_2" .f32 0x3F317218#32 ((Real.log 2 : ℝ) : EReal)

def algebraic_KernelIdeal_ReferenceIdeal_pre_shift_finite [hKernelIdeal : Cert.KernelIdeal.Facts] [hReferenceIdeal : Cert.ReferenceIdeal.Facts] [hPre_shift_finite : Cert.Pre_shift_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shift_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_shift_finite : Cert.Pre_shift_finite.Facts),
    quiescent_Kernel (hKernel := hKernel)
    ∧ quiescent_KernelIdeal (hKernelIdeal := hKernelIdeal)
    ∧ quiescent_KernelIdeal_pre_shift_finite (hKernelIdeal := hKernelIdeal) (hPre_shift_finite := hPre_shift_finite)
    ∧ quiescent_ReferenceIdeal (hReferenceIdeal := hReferenceIdeal)
    ∧ quiescent_ReferenceIdeal_pre_shift_finite (hReferenceIdeal := hReferenceIdeal) (hPre_shift_finite := hPre_shift_finite)
    ∧ quiescent_Reference (hReference := hReference)
    ∧ preserves_Kernel_KernelIdeal
    ∧ preserves_Reference_ReferenceIdeal
    ∧ algebraic_KernelIdeal_ReferenceIdeal_pre_shift_finite (hKernelIdeal := hKernelIdeal) (hReferenceIdeal := hReferenceIdeal) (hPre_shift_finite := hPre_shift_finite)
-- ==== Pre_shift_finite.lean ====
abbrev S2x128x2304 : Shape := ⟨3, ![2, 128, 2304]⟩
abbrev S2x2304 : Shape := ⟨2, ![2, 2304]⟩
abbrev S9216x2304 : Shape := ⟨2, ![9216, 2304]⟩
abbrev S9216 : Shape := ⟨1, ![9216]⟩
abbrev S_ : Shape := ⟨0, ![]⟩

class Facts : Prop where
  bcast_S_S2x2304 : S_.BroadcastsInDim S2x2304 (![] : Fin 0 → Fin S2x2304.rank)

variable [Facts]

def fn {F : FTy → Type} [FloatOps F] (main_arg0 : FVec F S2x128x2304 .bf16) (main_arg1 : FVec F S2x2304 .f32) (main_arg2 : FVec F S2x2304 .f32) (main_arg3 : FVec F S9216x2304 .fp8e4m3) (main_arg4 : FVec F S9216 .f32) (main_arg5 : FVec F S9216 .f32) : IVec S2x2304 1 :=
  let main_v0 : FVec F S2x2304 .f32 := Host.absf main_arg2
  let main_cst : FVec F S_ .f32 := constant S_ .f32 0x7F800000#32
  let main_v1 : FVec F S2x2304 .f32 := broadcastInDim S2x2304 ![] bcast_S_S2x2304 main_cst
  let main_v2 : IVec S2x2304 1 := cmpf .olt main_v0 main_v1
  main_v2
-- ==== Kernel.lean ====
abbrev S2x128x2304 : Shape := ⟨3, ![2, 128, 2304]⟩
abbrev S2x2304 : Shape := ⟨2, ![2, 2304]⟩
abbrev S9216x2304 : Shape := ⟨2, ![9216, 2304]⟩
abbrev S9216 : Shape := ⟨1, ![9216]⟩
abbrev S1x9216 : Shape := ⟨2, ![1, 9216]⟩
abbrev S2x128x9216 : Shape := ⟨3, ![2, 128, 9216]⟩
abbrev S2x128 : Shape := ⟨2, ![2, 128]⟩
abbrev S2x9216x2304 : Shape := ⟨3, ![2, 9216, 2304]⟩
abbrev S2x9216 : Shape := ⟨2, ![2, 9216]⟩
abbrev S256x2304 : Shape := ⟨2, ![256, 2304]⟩
abbrev S1x256 : Shape := ⟨2, ![1, 256]⟩
abbrev S2x128x256 : Shape := ⟨3, ![2, 128, 256]⟩
abbrev S2x256x2304 : Shape := ⟨3, ![2, 256, 2304]⟩
abbrev S2x256 : Shape := ⟨2, ![2, 256]⟩
abbrev S2x8x2304 : Shape := ⟨3, ![2, 8, 2304]⟩
abbrev S2x128x128 : Shape := ⟨3, ![2, 128, 128]⟩
abbrev S16x2304 : Shape := ⟨2, ![16, 2304]⟩
abbrev S2x256x128 : Shape := ⟨3, ![2, 256, 128]⟩
abbrev S1x2304 : Shape := ⟨2, ![1, 2304]⟩
abbrev S8x2304 : Shape := ⟨2, ![8, 2304]⟩
abbrev S1x8x2304 : Shape := ⟨3, ![1, 8, 2304]⟩
abbrev S1x32x2304 : Shape := ⟨3, ![1, 32, 2304]⟩
abbrev S32x2304 : Shape := ⟨2, ![32, 2304]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S1x128x128 : Shape := ⟨3, ![1, 128, 128]⟩
abbrev S128x128 : Shape := ⟨2, ![128, 128]⟩
abbrev S1x128 : Shape := ⟨2, ![1, 128]⟩
abbrev S10x2304 : Shape := ⟨2, ![10, 2304]⟩
abbrev S4x8x128 : Shape := ⟨3, ![4, 8, 128]⟩
abbrev S1x8x128 : Shape := ⟨3, ![1, 8, 128]⟩
abbrev S8x128 : Shape := ⟨2, ![8, 128]⟩
abbrev S1x256x128 : Shape := ⟨3, ![1, 256, 128]⟩
abbrev S256x128 : Shape := ⟨2, ![256, 128]⟩
abbrev S128x256 : Shape := ⟨2, ![128, 256]⟩
abbrev S256 : Shape := ⟨1, ![256]⟩
abbrev S16x256 : Shape := ⟨2, ![16, 256]⟩
abbrev S1x128x2304 : Shape := ⟨3, ![1, 128, 2304]⟩
abbrev S128x2304 : Shape := ⟨2, ![128, 2304]⟩
abbrev S1x256x2304 : Shape := ⟨3, ![1, 256, 2304]⟩
abbrev S1x128x256 : Shape := ⟨3, ![1, 128, 256]⟩

abbrev nBuf : Space → Nat
  | .hbm => 13
  | .vmem => 23
  | .smem => 0
  | _ => 0

abbrev bufTy : (tb : Table) → Fin (tcTables nBuf tb) → BufTy
  | .hbm, ⟨0, _⟩ => ⟨S2x128x2304, .bf16⟩
  | .hbm, ⟨1, _⟩ => ⟨S2x2304, .f32⟩
  | .hbm, ⟨2, _⟩ => ⟨S2x2304, .f32⟩
  | .hbm, ⟨3, _⟩ => ⟨S9216x2304, .fp8e4m3⟩
  | .hbm, ⟨4, _⟩ => ⟨S9216, .f32⟩
  | .hbm, ⟨5, _⟩ => ⟨S9216, .f32⟩
  | .hbm, ⟨6, _⟩ => ⟨S1x9216, .f32⟩
  | .hbm, ⟨7, _⟩ => ⟨S1x9216, .f32⟩
  | .hbm, ⟨8, _⟩ => ⟨S2x128x9216, .bf16⟩
  | .hbm, ⟨9, _⟩ => ⟨S2x128x2304, .fp8e4m3⟩
  | .hbm, ⟨10, _⟩ => ⟨S2x128, .f32⟩
  | .hbm, ⟨11, _⟩ => ⟨S2x9216x2304, .fp8e4m3⟩
  | .hbm, ⟨12, _⟩ => ⟨S2x9216, .f32⟩
  | .local _ .vmem, ⟨0, _⟩ => ⟨S2x128x2304, .bf16⟩
  | .local _ .vmem, ⟨1, _⟩ => ⟨S2x2304, .f32⟩
  | .local _ .vmem, ⟨2, _⟩ => ⟨S2x2304, .f32⟩
  | .local _ .vmem, ⟨3, _⟩ => ⟨S256x2304, .fp8e4m3⟩
  | .local _ .vmem, ⟨4, _⟩ => ⟨S256x2304, .fp8e4m3⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2x128x256, .bf16⟩
  | .local _ .vmem, ⟨10, _⟩ => ⟨S2x128x256, .bf16⟩
  | .local _ .vmem, ⟨11, _⟩ => ⟨S2x128x2304, .fp8e4m3⟩
  | .local _ .vmem, ⟨12, _⟩ => ⟨S2x128, .f32⟩
  | .local _ .vmem, ⟨13, _⟩ => ⟨S2x256x2304, .fp8e4m3⟩
  | .local _ .vmem, ⟨14, _⟩ => ⟨S2x256x2304, .fp8e4m3⟩
  | .local _ .vmem, ⟨15, _⟩ => ⟨S2x256, .f32⟩
  | .local _ .vmem, ⟨16, _⟩ => ⟨S2x256, .f32⟩
  | .local _ .vmem, ⟨17, _⟩ => ⟨S2x8x2304, .f32⟩
  | .local _ .vmem, ⟨18, _⟩ => ⟨S2x128x128, .f32⟩
  | .local _ .vmem, ⟨19, _⟩ => ⟨S16x2304, .bf16⟩
  | .local _ .vmem, ⟨20, _⟩ => ⟨S2x256x2304, .f32⟩
  | .local _ .vmem, ⟨21, _⟩ => ⟨S2x256x128, .f32⟩
  | .local _ .vmem, ⟨22, _⟩ => ⟨S2x256x128, .f32⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_115 : BitVec 32 := 0#32
  let c4_i32_116 : BitVec 32 := 4#32
  let v270 : BitVec 32 := Scalar.addi c0_i32_115 c4_i32_116
  let c1_i32_117 : BitVec 32 := 1#32
  ⟨c0_i32_115, v270, c1_i32_117⟩
def k0_mult1 (k0_t1 : Fin k0_t1_loop.trips) : BitVec 32 :=
  let c0_i32_115 : BitVec 32 := 0#32
  let c1_i32_117 : BitVec 32 := 1#32
  let arg18 : BitVec 32 := Scf.iv c0_i32_115 c1_i32_117 k0_t1
  let c32_i32_144 : BitVec 32 := 32#32
  let v305 : BitVec 32 := Scalar.muli arg18 c32_i32_144
  v305
def k0_off1 (k0_t1 : Fin k0_t1_loop.trips) : Fin 3 → Nat :=
  let c0_145 : Index := 0#32
  let c0_i32_115 : BitVec 32 := 0#32
  let c1_i32_117 : BitVec 32 := 1#32
  let arg18 : BitVec 32 := Scf.iv c0_i32_115 c1_i32_117 k0_t1
  let c32_i32_144 : BitVec 32 := 32#32
  let v305 : BitVec 32 := Scalar.muli arg18 c32_i32_144
  let v306 : BitVec 32 := v305
  let v307 : Index := Scalar.indexCast v306
  let c0_146 : Index := 0#32
  ![0, v307.toNat, 0]
def k0_off2 (k0_t1 : Fin k0_t1_loop.trips) : Fin 3 → Nat :=
  let c0_185 : Index := 0#32
  let c0_i32_115 : BitVec 32 := 0#32
  let c1_i32_117 : BitVec 32 := 1#32
  let arg18 : BitVec 32 := Scf.iv c0_i32_115 c1_i32_117 k0_t1
  let c32_i32_144 : BitVec 32 := 32#32
  let v305 : BitVec 32 := Scalar.muli arg18 c32_i32_144
  let v306 : BitVec 32 := v305
  let v427 : Index := Scalar.indexCast v306
  let c0_186 : Index := 0#32
  ![0, v427.toNat, 0]
@[reducible] def k0_t2_loop : Scf.Loop 32 :=
  let c0_i32_130 : BitVec 32 := 0#32
  let c4_i32_131 : BitVec 32 := 4#32
  let v284 : BitVec 32 := Scalar.addi c0_i32_130 c4_i32_131
  let c1_i32_132 : BitVec 32 := 1#32
  ⟨c0_i32_130, v284, c1_i32_132⟩
def k0_mult2 (k0_t2 : Fin k0_t2_loop.trips) : BitVec 32 :=
  let c0_i32_130 : BitVec 32 := 0#32
  let c1_i32_132 : BitVec 32 := 1#32
  let arg18 : BitVec 32 := Scf.iv c0_i32_130 c1_i32_132 k0_t2
  let c32_i32_144 : BitVec 32 := 32#32
  let v305 : BitVec 32 := Scalar.muli arg18 c32_i32_144
  v305
def k0_off3 (k0_t2 : Fin k0_t2_loop.trips) : Fin 3 → Nat :=
  let c1_145 : Index := 1#32
  let c0_i32_130 : BitVec 32 := 0#32
  let c1_i32_132 : BitVec 32 := 1#32
  let arg18 : BitVec 32 := Scf.iv c0_i32_130 c1_i32_132 k0_t2
  let c32_i32_144 : BitVec 32 := 32#32
  let v305 : BitVec 32 := Scalar.muli arg18 c32_i32_144
  let v306 : BitVec 32 := v305
  let v307 : Index := Scalar.indexCast v306
  let c0_146 : Index := 0#32
  ![1, v307.toNat, 0]
def k0_off4 (k0_t2 : Fin k0_t2_loop.trips) : Fin 3 → Nat :=
  let c1_185 : Index := 1#32
  let c0_i32_130 : BitVec 32 := 0#32
  let c1_i32_132 : BitVec 32 := 1#32
  let arg18 : BitVec 32 := Scf.iv c0_i32_130 c1_i32_132 k0_t2
  let c32_i32_144 : BitVec 32 := 32#32
  let v305 : BitVec 32 := Scalar.muli arg18 c32_i32_144
  let v306 : BitVec 32 := v305
  let v427 : Index := Scalar.indexCast v306
  let c0_186 : Index := 0#32
  ![1, v427.toNat, 0]
@[reducible] def k0_t3_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult3 (k0_t3 : Fin k0_t3_loop.trips) : BitVec 32 :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  v262
def k0_off5 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v264 : Index := Scalar.indexCast v263
  let c0_110 : Index := 0#32
  ![v264.toNat, 0]
def k0_off6 (k0_t3 : Fin k0_t3_loop.trips) : Fin 3 → Nat :=
  let c0_114 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v274 : Index := Scalar.indexCast v263
  let c0_115 : Index := 0#32
  ![0, v274.toNat, 0]
def k0_off7 (k0_t3 : Fin k0_t3_loop.trips) : Fin 3 → Nat :=
  let c1_119 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v285 : Index := Scalar.indexCast v263
  let c0_120 : Index := 0#32
  ![1, v285.toNat, 0]
def k0_off8 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v290 : Index := Scalar.indexCast v263
  let c128 : Index := 128#32
  ![v290.toNat, 128]
def k0_off9 (k0_t3 : Fin k0_t3_loop.trips) : Fin 3 → Nat :=
  let c0_124 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v300 : Index := Scalar.indexCast v263
  let c128_125 : Index := 128#32
  ![0, v300.toNat, 128]
def k0_off10 (k0_t3 : Fin k0_t3_loop.trips) : Fin 3 → Nat :=
  let c1_129 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v312 : Index := Scalar.indexCast v263
  let c128_130 : Index := 128#32
  ![1, v312.toNat, 128]
def k0_off11 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v318 : Index := Scalar.indexCast v263
  let c256 : Index := 256#32
  ![v318.toNat, 256]
def k0_off12 (k0_t3 : Fin k0_t3_loop.trips) : Fin 3 → Nat :=
  let c0_134 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v328 : Index := Scalar.indexCast v263
  let c256_135 : Index := 256#32
  ![0, v328.toNat, 256]
def k0_off13 (k0_t3 : Fin k0_t3_loop.trips) : Fin 3 → Nat :=
  let c1_139 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v340 : Index := Scalar.indexCast v263
  let c256_140 : Index := 256#32
  ![1, v340.toNat, 256]
def k0_off14 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v346 : Index := Scalar.indexCast v263
  let c384 : Index := 384#32
  ![v346.toNat, 384]
def k0_off15 (k0_t3 : Fin k0_t3_loop.trips) : Fin 3 → Nat :=
  let c0_144 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v356 : Index := Scalar.indexCast v263
  let c384_145 : Index := 384#32
  ![0, v356.toNat, 384]
def k0_off16 (k0_t3 : Fin k0_t3_loop.trips) : Fin 3 → Nat :=
  let c1_149 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v368 : Index := Scalar.indexCast v263
  let c384_150 : Index := 384#32
  ![1, v368.toNat, 384]
def k0_off17 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v374 : Index := Scalar.indexCast v263
  let c512 : Index := 512#32
  ![v374.toNat, 512]
def k0_off18 (k0_t3 : Fin k0_t3_loop.trips) : Fin 3 → Nat :=
  let c0_154 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v384 : Index := Scalar.indexCast v263
  let c512_155 : Index := 512#32
  ![0, v384.toNat, 512]
def k0_off19 (k0_t3 : Fin k0_t3_loop.trips) : Fin 3 → Nat :=
  let c1_159 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v396 : Index := Scalar.indexCast v263
  let c512_160 : Index := 512#32
  ![1, v396.toNat, 512]
def k0_off20 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v402 : Index := Scalar.indexCast v263
  let c640 : Index := 640#32
  ![v402.toNat, 640]
def k0_off21 (k0_t3 : Fin k0_t3_loop.trips) : Fin 3 → Nat :=
  let c0_164 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v412 : Index := Scalar.indexCast v263
  let c640_165 : Index := 640#32
  ![0, v412.toNat, 640]
def k0_off22 (k0_t3 : Fin k0_t3_loop.trips) : Fin 3 → Nat :=
  let c1_169 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v424 : Index := Scalar.indexCast v263
  let c640_170 : Index := 640#32
  ![1, v424.toNat, 640]
def k0_off23 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v430 : Index := Scalar.indexCast v263
  let c768 : Index := 768#32
  ![v430.toNat, 768]
def k0_off24 (k0_t3 : Fin k0_t3_loop.trips) : Fin 3 → Nat :=
  let c0_174 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v440 : Index := Scalar.indexCast v263
  let c768_175 : Index := 768#32
  ![0, v440.toNat, 768]
def k0_off25 (k0_t3 : Fin k0_t3_loop.trips) : Fin 3 → Nat :=
  let c1_179 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v452 : Index := Scalar.indexCast v263
  let c768_180 : Index := 768#32
  ![1, v452.toNat, 768]
def k0_off26 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v458 : Index := Scalar.indexCast v263
  let c896 : Index := 896#32
  ![v458.toNat, 896]
def k0_off27 (k0_t3 : Fin k0_t3_loop.trips) : Fin 3 → Nat :=
  let c0_184 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v468 : Index := Scalar.indexCast v263
  let c896_185 : Index := 896#32
  ![0, v468.toNat, 896]
def k0_off28 (k0_t3 : Fin k0_t3_loop.trips) : Fin 3 → Nat :=
  let c1_189 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v480 : Index := Scalar.indexCast v263
  let c896_190 : Index := 896#32
  ![1, v480.toNat, 896]
def k0_off29 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v486 : Index := Scalar.indexCast v263
  let c1024 : Index := 1024#32
  ![v486.toNat, 1024]
def k0_off30 (k0_t3 : Fin k0_t3_loop.trips) : Fin 3 → Nat :=
  let c0_194 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v496 : Index := Scalar.indexCast v263
  let c1024_195 : Index := 1024#32
  ![0, v496.toNat, 1024]
def k0_off31 (k0_t3 : Fin k0_t3_loop.trips) : Fin 3 → Nat :=
  let c1_199 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v508 : Index := Scalar.indexCast v263
  let c1024_200 : Index := 1024#32
  ![1, v508.toNat, 1024]
def k0_off32 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v514 : Index := Scalar.indexCast v263
  let c1152 : Index := 1152#32
  ![v514.toNat, 1152]
def k0_off33 (k0_t3 : Fin k0_t3_loop.trips) : Fin 3 → Nat :=
  let c0_204 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v524 : Index := Scalar.indexCast v263
  let c1152_205 : Index := 1152#32
  ![0, v524.toNat, 1152]
def k0_off34 (k0_t3 : Fin k0_t3_loop.trips) : Fin 3 → Nat :=
  let c1_209 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v536 : Index := Scalar.indexCast v263
  let c1152_210 : Index := 1152#32
  ![1, v536.toNat, 1152]
def k0_off35 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v542 : Index := Scalar.indexCast v263
  let c1280 : Index := 1280#32
  ![v542.toNat, 1280]
def k0_off36 (k0_t3 : Fin k0_t3_loop.trips) : Fin 3 → Nat :=
  let c0_214 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v552 : Index := Scalar.indexCast v263
  let c1280_215 : Index := 1280#32
  ![0, v552.toNat, 1280]
def k0_off37 (k0_t3 : Fin k0_t3_loop.trips) : Fin 3 → Nat :=
  let c1_219 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v564 : Index := Scalar.indexCast v263
  let c1280_220 : Index := 1280#32
  ![1, v564.toNat, 1280]
def k0_off38 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v570 : Index := Scalar.indexCast v263
  let c1408 : Index := 1408#32
  ![v570.toNat, 1408]
def k0_off39 (k0_t3 : Fin k0_t3_loop.trips) : Fin 3 → Nat :=
  let c0_224 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v580 : Index := Scalar.indexCast v263
  let c1408_225 : Index := 1408#32
  ![0, v580.toNat, 1408]
def k0_off40 (k0_t3 : Fin k0_t3_loop.trips) : Fin 3 → Nat :=
  let c1_229 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v592 : Index := Scalar.indexCast v263
  let c1408_230 : Index := 1408#32
  ![1, v592.toNat, 1408]
def k0_off41 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v598 : Index := Scalar.indexCast v263
  let c1536 : Index := 1536#32
  ![v598.toNat, 1536]
def k0_off42 (k0_t3 : Fin k0_t3_loop.trips) : Fin 3 → Nat :=
  let c0_234 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v608 : Index := Scalar.indexCast v263
  let c1536_235 : Index := 1536#32
  ![0, v608.toNat, 1536]
def k0_off43 (k0_t3 : Fin k0_t3_loop.trips) : Fin 3 → Nat :=
  let c1_239 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v620 : Index := Scalar.indexCast v263
  let c1536_240 : Index := 1536#32
  ![1, v620.toNat, 1536]
def k0_off44 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v626 : Index := Scalar.indexCast v263
  let c1664 : Index := 1664#32
  ![v626.toNat, 1664]
def k0_off45 (k0_t3 : Fin k0_t3_loop.trips) : Fin 3 → Nat :=
  let c0_244 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v636 : Index := Scalar.indexCast v263
  let c1664_245 : Index := 1664#32
  ![0, v636.toNat, 1664]
def k0_off46 (k0_t3 : Fin k0_t3_loop.trips) : Fin 3 → Nat :=
  let c1_249 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v648 : Index := Scalar.indexCast v263
  let c1664_250 : Index := 1664#32
  ![1, v648.toNat, 1664]
def k0_off47 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v654 : Index := Scalar.indexCast v263
  let c1792 : Index := 1792#32
  ![v654.toNat, 1792]
def k0_off48 (k0_t3 : Fin k0_t3_loop.trips) : Fin 3 → Nat :=
  let c0_254 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v664 : Index := Scalar.indexCast v263
  let c1792_255 : Index := 1792#32
  ![0, v664.toNat, 1792]
def k0_off49 (k0_t3 : Fin k0_t3_loop.trips) : Fin 3 → Nat :=
  let c1_259 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v676 : Index := Scalar.indexCast v263
  let c1792_260 : Index := 1792#32
  ![1, v676.toNat, 1792]
def k0_off50 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v682 : Index := Scalar.indexCast v263
  let c1920 : Index := 1920#32
  ![v682.toNat, 1920]
def k0_off51 (k0_t3 : Fin k0_t3_loop.trips) : Fin 3 → Nat :=
  let c0_264 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v692 : Index := Scalar.indexCast v263
  let c1920_265 : Index := 1920#32
  ![0, v692.toNat, 1920]
def k0_off52 (k0_t3 : Fin k0_t3_loop.trips) : Fin 3 → Nat :=
  let c1_269 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v704 : Index := Scalar.indexCast v263
  let c1920_270 : Index := 1920#32
  ![1, v704.toNat, 1920]
def k0_off53 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v710 : Index := Scalar.indexCast v263
  let c2048 : Index := 2048#32
  ![v710.toNat, 2048]
def k0_off54 (k0_t3 : Fin k0_t3_loop.trips) : Fin 3 → Nat :=
  let c0_274 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v720 : Index := Scalar.indexCast v263
  let c2048_275 : Index := 2048#32
  ![0, v720.toNat, 2048]
def k0_off55 (k0_t3 : Fin k0_t3_loop.trips) : Fin 3 → Nat :=
  let c1_279 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v732 : Index := Scalar.indexCast v263
  let c2048_280 : Index := 2048#32
  ![1, v732.toNat, 2048]
def k0_off56 (k0_t3 : Fin k0_t3_loop.trips) : Fin 2 → Nat :=
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v738 : Index := Scalar.indexCast v263
  let c2176 : Index := 2176#32
  ![v738.toNat, 2176]
def k0_off57 (k0_t3 : Fin k0_t3_loop.trips) : Fin 3 → Nat :=
  let c0_284 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v748 : Index := Scalar.indexCast v263
  let c2176_285 : Index := 2176#32
  ![0, v748.toNat, 2176]
def k0_off58 (k0_t3 : Fin k0_t3_loop.trips) : Fin 3 → Nat :=
  let c1_289 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v760 : Index := Scalar.indexCast v263
  let c2176_290 : Index := 2176#32
  ![1, v760.toNat, 2176]
def k0_off59 (k0_t3 : Fin k0_t3_loop.trips) : Fin 3 → Nat :=
  let c0_291 : Index := 0#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v766 : Index := Scalar.indexCast v263
  let c0_292 : Index := 0#32
  ![0, v766.toNat, 0]
def k0_off60 (k0_t3 : Fin k0_t3_loop.trips) : Fin 3 → Nat :=
  let c1_293 : Index := 1#32
  let c0_i32_1 : BitVec 32 := 0#32
  let c1_i32 : BitVec 32 := 1#32
  let arg18 : BitVec 32 := Scf.iv c0_i32_1 c1_i32 k0_t3
  let c32_i32_109 : BitVec 32 := 32#32
  let v262 : BitVec 32 := Scalar.muli arg18 c32_i32_109
  let v263 : BitVec 32 := v262
  let v770 : Index := Scalar.indexCast v263
  let c0_294 : Index := 0#32
  ![1, v770.toNat, 0]
@[reducible] def k0_t4_loop : Scf.Loop 32 :=
  let c0_i32_66 : BitVec 32 := 0#32
  let c8_i32_67 : BitVec 32 := 8#32
  let v202 : BitVec 32 := Scalar.addi c0_i32_66 c8_i32_67
  let c1_i32_68 : BitVec 32 := 1#32
  ⟨c0_i32_66, v202, c1_i32_68⟩
def k0_mult4 (k0_t4 : Fin k0_t4_loop.trips) : BitVec 32 :=
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  v262
def k0_off61 (k0_t4 : Fin k0_t4_loop.trips) : Fin 3 → Nat :=
  let c0_110 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v264 : Index := Scalar.indexCast v263
  let c0_111 : Index := 0#32
  ![0, v264.toNat, 0]
def k0_off62 (k0_t4 : Fin k0_t4_loop.trips) : Fin 3 → Nat :=
  let c0_112 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v267 : Index := Scalar.indexCast v263
  let c0_113 : Index := 0#32
  ![0, v267.toNat, 0]
def k0_off63 (k0_t4 : Fin k0_t4_loop.trips) : Fin 3 → Nat :=
  let c0_118 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v280 : Index := Scalar.indexCast v263
  let c128 : Index := 128#32
  ![0, v280.toNat, 128]
def k0_off64 (k0_t4 : Fin k0_t4_loop.trips) : Fin 3 → Nat :=
  let c0_123 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v293 : Index := Scalar.indexCast v263
  let c256 : Index := 256#32
  ![0, v293.toNat, 256]
def k0_off65 (k0_t4 : Fin k0_t4_loop.trips) : Fin 3 → Nat :=
  let c0_128 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v306 : Index := Scalar.indexCast v263
  let c384 : Index := 384#32
  ![0, v306.toNat, 384]
def k0_off66 (k0_t4 : Fin k0_t4_loop.trips) : Fin 3 → Nat :=
  let c0_133 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v319 : Index := Scalar.indexCast v263
  let c512 : Index := 512#32
  ![0, v319.toNat, 512]
def k0_off67 (k0_t4 : Fin k0_t4_loop.trips) : Fin 3 → Nat :=
  let c0_138 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v332 : Index := Scalar.indexCast v263
  let c640 : Index := 640#32
  ![0, v332.toNat, 640]
def k0_off68 (k0_t4 : Fin k0_t4_loop.trips) : Fin 3 → Nat :=
  let c0_143 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v345 : Index := Scalar.indexCast v263
  let c768 : Index := 768#32
  ![0, v345.toNat, 768]
def k0_off69 (k0_t4 : Fin k0_t4_loop.trips) : Fin 3 → Nat :=
  let c0_148 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v358 : Index := Scalar.indexCast v263
  let c896 : Index := 896#32
  ![0, v358.toNat, 896]
def k0_off70 (k0_t4 : Fin k0_t4_loop.trips) : Fin 3 → Nat :=
  let c0_153 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v371 : Index := Scalar.indexCast v263
  let c1024 : Index := 1024#32
  ![0, v371.toNat, 1024]
def k0_off71 (k0_t4 : Fin k0_t4_loop.trips) : Fin 3 → Nat :=
  let c0_158 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v384 : Index := Scalar.indexCast v263
  let c1152 : Index := 1152#32
  ![0, v384.toNat, 1152]
def k0_off72 (k0_t4 : Fin k0_t4_loop.trips) : Fin 3 → Nat :=
  let c0_163 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v397 : Index := Scalar.indexCast v263
  let c1280 : Index := 1280#32
  ![0, v397.toNat, 1280]
def k0_off73 (k0_t4 : Fin k0_t4_loop.trips) : Fin 3 → Nat :=
  let c0_168 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v410 : Index := Scalar.indexCast v263
  let c1408 : Index := 1408#32
  ![0, v410.toNat, 1408]
def k0_off74 (k0_t4 : Fin k0_t4_loop.trips) : Fin 3 → Nat :=
  let c0_173 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v423 : Index := Scalar.indexCast v263
  let c1536 : Index := 1536#32
  ![0, v423.toNat, 1536]
def k0_off75 (k0_t4 : Fin k0_t4_loop.trips) : Fin 3 → Nat :=
  let c0_178 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v436 : Index := Scalar.indexCast v263
  let c1664 : Index := 1664#32
  ![0, v436.toNat, 1664]
def k0_off76 (k0_t4 : Fin k0_t4_loop.trips) : Fin 3 → Nat :=
  let c0_183 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v449 : Index := Scalar.indexCast v263
  let c1792 : Index := 1792#32
  ![0, v449.toNat, 1792]
def k0_off77 (k0_t4 : Fin k0_t4_loop.trips) : Fin 3 → Nat :=
  let c0_188 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v462 : Index := Scalar.indexCast v263
  let c1920 : Index := 1920#32
  ![0, v462.toNat, 1920]
def k0_off78 (k0_t4 : Fin k0_t4_loop.trips) : Fin 3 → Nat :=
  let c0_193 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v475 : Index := Scalar.indexCast v263
  let c2048 : Index := 2048#32
  ![0, v475.toNat, 2048]
def k0_off79 (k0_t4 : Fin k0_t4_loop.trips) : Fin 3 → Nat :=
  let c0_198 : Index := 0#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v488 : Index := Scalar.indexCast v263
  let c2176 : Index := 2176#32
  ![0, v488.toNat, 2176]
def k0_off80 (k0_t4 : Fin k0_t4_loop.trips) : Fin 3 → Nat :=
  let c1_203 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v501 : Index := Scalar.indexCast v263
  let c0_204 : Index := 0#32
  ![1, v501.toNat, 0]
def k0_off81 (k0_t4 : Fin k0_t4_loop.trips) : Fin 3 → Nat :=
  let c1_205 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v504 : Index := Scalar.indexCast v263
  let c0_206 : Index := 0#32
  ![1, v504.toNat, 0]
def k0_off82 (k0_t4 : Fin k0_t4_loop.trips) : Fin 3 → Nat :=
  let c1_211 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v517 : Index := Scalar.indexCast v263
  let c128_212 : Index := 128#32
  ![1, v517.toNat, 128]
def k0_off83 (k0_t4 : Fin k0_t4_loop.trips) : Fin 3 → Nat :=
  let c1_217 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v530 : Index := Scalar.indexCast v263
  let c256_218 : Index := 256#32
  ![1, v530.toNat, 256]
def k0_off84 (k0_t4 : Fin k0_t4_loop.trips) : Fin 3 → Nat :=
  let c1_223 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v543 : Index := Scalar.indexCast v263
  let c384_224 : Index := 384#32
  ![1, v543.toNat, 384]
def k0_off85 (k0_t4 : Fin k0_t4_loop.trips) : Fin 3 → Nat :=
  let c1_229 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v556 : Index := Scalar.indexCast v263
  let c512_230 : Index := 512#32
  ![1, v556.toNat, 512]
def k0_off86 (k0_t4 : Fin k0_t4_loop.trips) : Fin 3 → Nat :=
  let c1_235 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v569 : Index := Scalar.indexCast v263
  let c640_236 : Index := 640#32
  ![1, v569.toNat, 640]
def k0_off87 (k0_t4 : Fin k0_t4_loop.trips) : Fin 3 → Nat :=
  let c1_241 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v582 : Index := Scalar.indexCast v263
  let c768_242 : Index := 768#32
  ![1, v582.toNat, 768]
def k0_off88 (k0_t4 : Fin k0_t4_loop.trips) : Fin 3 → Nat :=
  let c1_247 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v595 : Index := Scalar.indexCast v263
  let c896_248 : Index := 896#32
  ![1, v595.toNat, 896]
def k0_off89 (k0_t4 : Fin k0_t4_loop.trips) : Fin 3 → Nat :=
  let c1_253 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v608 : Index := Scalar.indexCast v263
  let c1024_254 : Index := 1024#32
  ![1, v608.toNat, 1024]
def k0_off90 (k0_t4 : Fin k0_t4_loop.trips) : Fin 3 → Nat :=
  let c1_259 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v621 : Index := Scalar.indexCast v263
  let c1152_260 : Index := 1152#32
  ![1, v621.toNat, 1152]
def k0_off91 (k0_t4 : Fin k0_t4_loop.trips) : Fin 3 → Nat :=
  let c1_265 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v634 : Index := Scalar.indexCast v263
  let c1280_266 : Index := 1280#32
  ![1, v634.toNat, 1280]
def k0_off92 (k0_t4 : Fin k0_t4_loop.trips) : Fin 3 → Nat :=
  let c1_271 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v647 : Index := Scalar.indexCast v263
  let c1408_272 : Index := 1408#32
  ![1, v647.toNat, 1408]
def k0_off93 (k0_t4 : Fin k0_t4_loop.trips) : Fin 3 → Nat :=
  let c1_277 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v660 : Index := Scalar.indexCast v263
  let c1536_278 : Index := 1536#32
  ![1, v660.toNat, 1536]
def k0_off94 (k0_t4 : Fin k0_t4_loop.trips) : Fin 3 → Nat :=
  let c1_283 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v673 : Index := Scalar.indexCast v263
  let c1664_284 : Index := 1664#32
  ![1, v673.toNat, 1664]
def k0_off95 (k0_t4 : Fin k0_t4_loop.trips) : Fin 3 → Nat :=
  let c1_289 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v686 : Index := Scalar.indexCast v263
  let c1792_290 : Index := 1792#32
  ![1, v686.toNat, 1792]
def k0_off96 (k0_t4 : Fin k0_t4_loop.trips) : Fin 3 → Nat :=
  let c1_295 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v699 : Index := Scalar.indexCast v263
  let c1920_296 : Index := 1920#32
  ![1, v699.toNat, 1920]
def k0_off97 (k0_t4 : Fin k0_t4_loop.trips) : Fin 3 → Nat :=
  let c1_301 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v712 : Index := Scalar.indexCast v263
  let c2048_302 : Index := 2048#32
  ![1, v712.toNat, 2048]
def k0_off98 (k0_t4 : Fin k0_t4_loop.trips) : Fin 3 → Nat :=
  let c1_307 : Index := 1#32
  let c0_i32_66 : BitVec 32 := 0#32
  let c1_i32_68 : BitVec 32 := 1#32
  let arg18 : BitVec 32 := Scf.iv c0_i32_66 c1_i32_68 k0_t4
  let c32_i32_109 : BitVec 32 := 32#32
  let v262 : BitVec 32 := Scalar.muli arg18 c32_i32_109
  let v263 : BitVec 32 := v262
  let v725 : Index := Scalar.indexCast v263
  let c2176_308 : Index := 2176#32
  ![1, v725.toNat, 2176]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x128x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x256x2304 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
variable {F : FTy → Type} [FloatOps F] [Named F]
def κ : String → Option EReal := fun
  | "ln_2" => some ((Real.log 2 : ℝ) : EReal)
  | _ => none
-- ==== Reference.lean ====
abbrev S2x128x2304 : Shape := ⟨3, ![2, 128, 2304]⟩
abbrev S2x2304 : Shape := ⟨2, ![2, 2304]⟩
abbrev S9216x2304 : Shape := ⟨2, ![9216, 2304]⟩
abbrev S9216 : Shape := ⟨1, ![9216]⟩
abbrev S2x128x9216 : Shape := ⟨3, ![2, 128, 9216]⟩
abbrev S2x128 : Shape := ⟨2, ![2, 128]⟩
abbrev S2x9216x2304 : Shape := ⟨3, ![2, 9216, 2304]⟩
abbrev S2x9216 : Shape := ⟨2, ![2, 9216]⟩
abbrev S2x128x1 : Shape := ⟨3, ![2, 128, 1]⟩
abbrev S9216x1 : Shape := ⟨2, ![9216, 1]⟩
abbrev S2x1x2304 : Shape := ⟨3, ![2, 1, 2304]⟩
abbrev S1x9216x2304 : Shape := ⟨3, ![1, 9216, 2304]⟩
abbrev S2x9216x1 : Shape := ⟨3, ![2, 9216, 1]⟩
abbrev S1x9216 : Shape := ⟨2, ![1, 9216]⟩
abbrev S2x1x9216 : Shape := ⟨3, ![2, 1, 9216]⟩

abbrev nBuf : Space → Nat
  | .hbm => 11
  | .vmem => 11
  | .smem => 0
  | _ => 0

abbrev bufTy : (tb : Table) → Fin (tcTables nBuf tb) → BufTy
  | .hbm, ⟨0, _⟩ => ⟨S2x128x2304, .bf16⟩
  | .hbm, ⟨1, _⟩ => ⟨S2x2304, .f32⟩
  | .hbm, ⟨2, _⟩ => ⟨S2x2304, .f32⟩
  | .hbm, ⟨3, _⟩ => ⟨S9216x2304, .fp8e4m3⟩
  | .hbm, ⟨4, _⟩ => ⟨S9216, .f32⟩
  | .hbm, ⟨5, _⟩ => ⟨S9216, .f32⟩
  | .hbm, ⟨6, _⟩ => ⟨S2x128x9216, .bf16⟩
  | .hbm, ⟨7, _⟩ => ⟨S2x128x2304, .fp8e4m3⟩
  | .hbm, ⟨8, _⟩ => ⟨S2x128, .f32⟩
  | .hbm, ⟨9, _⟩ => ⟨S2x9216x2304, .fp8e4m3⟩
  | .hbm, ⟨10, _⟩ => ⟨S2x9216, .f32⟩
  | .local _ .vmem, ⟨0, _⟩ => ⟨S2x128x2304, .bf16⟩
  | .local _ .vmem, ⟨1, _⟩ => ⟨S2x2304, .f32⟩
  | .local _ .vmem, ⟨2, _⟩ => ⟨S2x2304, .f32⟩
  | .local _ .vmem, ⟨3, _⟩ => ⟨S9216x2304, .fp8e4m3⟩
  | .local _ .vmem, ⟨4, _⟩ => ⟨S9216, .f32⟩
  | .local _ .vmem, ⟨5, _⟩ => ⟨S9216, .f32⟩
  | .local _ .vmem, ⟨6, _⟩ => ⟨S2x128x9216, .bf16⟩
  | .local _ .vmem, ⟨7, _⟩ => ⟨S2x128x2304, .fp8e4m3⟩
  | .local _ .vmem, ⟨8, _⟩ => ⟨S2x128, .f32⟩
  | .local _ .vmem, ⟨9, _⟩ => ⟨S2x9216x2304, .fp8e4m3⟩
  | .local _ .vmem, ⟨10, _⟩ => ⟨S2x9216, .f32⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x9216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x2304 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x9216x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x9216 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.FRuns.lean ====
/- What the frame of the kernel shares: the contents of every buffer on entry, the block of each input window,
   the condition that picks the first grid point, the staging buffers and the scratch buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x128x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x2304 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x256x2304 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x8x2304 .f32 := Memref.whole cc0_scratch0
abbrev scM0_1 : Memref sig .tc .vmem S2x128x128 .f32 := Memref.whole cc0_scratch1
abbrev scM0_2 : Memref sig .tc .vmem S16x2304 .bf16 := Memref.whole cc0_scratch2
abbrev scM0_3 : Memref sig .tc .vmem S2x256x2304 .f32 := Memref.whole cc0_scratch3
abbrev scM0_4 : Memref sig .tc .vmem S2x256x128 .f32 := Memref.whole cc0_scratch4
abbrev scM0_5 : Memref sig .tc .vmem S2x256x128 .f32 := Memref.whole cc0_scratch5
/-- The scratch `arg12` the kernel carries between points, as a view: what it holds is stated through it. -/
abbrev VS0_0 : View sig .tc .vmem S2x8x2304 .f32 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Own

end
-- ==== Proof.FRunA.lean ====
/- The whole body of the kernel at the first grid point: it runs, returns every input window as it was,
   and leaves each output window and each scratch buffer at some contents. -/
module

public import proofs.«01_k».proof.Proof.FRuns

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_A (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)
    (x0 : Vec F S2x128x2304 .bf16) (x1 : Vec F S2x2304 .f32) (x2 : Vec F S2x2304 .f32) (x3 : Vec F S256x2304 .fp8e4m3) (x4 : Vec F S1x256 .f32) (x5 : Vec F S1x256 .f32) :
    { LS0 : List (View.Piece (Elt F) S2x8x2304 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_requant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_adaln_requant_eq_skeleton]; unfold cc0_adaln_requant_skel
    simp only [k0_part30_eq_skeleton, k0_part5_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Own

end
-- ==== Proof.FRunB.lean ====
/- The whole body of the kernel at a later grid point: it runs, returns every input window as it was,
   and leaves each output window and each scratch buffer at some contents. -/
module

public import proofs.«01_k».proof.Proof.FRunA

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 35: 35 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (6, 7, 8, 9, 10) at anything, handed back at some contents nothing names. -/
noncomputable def kernelRun0_B (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : ¬cond0_0 i)
    (x0 : Vec F S2x128x2304 .bf16) (x1 : Vec F S2x2304 .f32) (x2 : Vec F S2x2304 .f32) (x3 : Vec F S256x2304 .fp8e4m3) (x4 : Vec F S1x256 .f32) (x5 : Vec F S1x256 .f32) (xs0 : Vec F S2x8x2304 .f32) :
    { LS0 : List (View.Piece (Elt F) S2x8x2304 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_requant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], fun E K => ?run⟩
  case run =>
    simp only [cc0_adaln_requant_eq_skeleton]; unfold cc0_adaln_requant_skel
    simp only [k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _; isplitr; · ipureintro; exact harg12.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Own

end
-- ==== Proof.FFrame.lean ====
/- The frame of the kernel: it runs to the end from every start, no operation on the way is undefined,
   and it leaves its arguments as they were. What the outputs hold is not stated here. -/
module

public import proofs.«01_k».proof.Proof.FRunB
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg12`, which the kernel carries between points, cover it: 2 pieces of `S1x8x2304` tiling it (Lib/Ring.lean `Piece.tiledL`). -/
theorem scover0_A_0 (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)
    (x0 : Vec F S2x128x2304 .bf16) (x1 : Vec F S2x2304 .f32) (x2 : Vec F S2x2304 .f32) (x3 : Vec F S256x2304 .fp8e4m3) (x4 : Vec F S1x256 .f32) (x5 : Vec F S1x256 .f32) (y : S2x8x2304.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 S1x8x2304.size (by sl_kernel_rfl) y

/-- What case A leaves in scratch `arg12`: its pieces read back over junk. -/
def sout0_A_0 (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)
    (x0 : Vec F S2x128x2304 .bf16) (x1 : Vec F S2x2304 .f32) (x2 : Vec F S2x2304 .f32) (x3 : Vec F S256x2304 .fp8e4m3) (x4 : Vec F S1x256 .f32) (x5 : Vec F S1x256 .f32) : Vec F S2x8x2304 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1)

/-- Case B stores nothing into scratch `arg12`: it holds what the point before left. -/
def sout0_B_0 (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : ¬cond0_0 i)
    (x0 : Vec F S2x128x2304 .bf16) (x1 : Vec F S2x2304 .f32) (x2 : Vec F S2x2304 .f32) (x3 : Vec F S256x2304 .fp8e4m3) (x4 : Vec F S1x256 .f32) (x5 : Vec F S1x256 .f32) (xs0 : Vec F S2x8x2304 .f32) : Vec F S2x8x2304 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x8x2304 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 36 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 36 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 36 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : t.val % 36 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    by_cases hz : t.val = 0
    · rw [PhiS_castSucc m c t, PhiS_zero m c _ _ hz, PhiA0_eq]
      rw [outsAt0_A m c t h0]
      unfold sout0_A_0
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, ⟨%es0, HS0⟩, HS1, HS2, HS3, HS4, HS5⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; have hN : t.val < 36 := lt_of_lt_of_eq t.isLt (show cfg0.N = 36 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    by_cases hz : t.val = 0
    · exfalso; have hN : t.val < 36 := lt_of_lt_of_eq t.isLt (show cfg0.N = 36 from N_0); omega
    · rw [PhiS_castSucc m c t, PhiS_pos m c _ _ hz]
      rw [outsAt0_B m c t h0]
      unfold sout0_B_0
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, HS0, HS1, HS2, HS3, HS4, HS5⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexact HS3
          isplitl [HS4]
          · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame: from every start the kernel runs to the end, its arguments keep their contents, and every semaphore
    is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Own

end
-- ==== Proof.KRuns.lean ====
/- What the two runs of the kernel's body share: the branch condition in closed form over the grid points, the staging
   and scratch memrefs as the pipeline passes them, and the scratch part of the region's invariant. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x128x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x2304 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128x2304 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x256x2304 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x8x2304 .f32 := Memref.whole cc0_scratch0
abbrev scM0_1 : Memref sig .tc .vmem S2x128x128 .f32 := Memref.whole cc0_scratch1
abbrev scM0_2 : Memref sig .tc .vmem S16x2304 .bf16 := Memref.whole cc0_scratch2
abbrev scM0_3 : Memref sig .tc .vmem S2x256x2304 .f32 := Memref.whole cc0_scratch3
abbrev scM0_4 : Memref sig .tc .vmem S2x256x128 .f32 := Memref.whole cc0_scratch4
abbrev scM0_5 : Memref sig .tc .vmem S2x256x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.KRunB.lean ====
/- The run of the kernel's body in case B (every point but the first), at any contents. -/
module

public import proofs.«01_k».proof.Proof.KRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case B at any contents of its buffers: the contents each buffer that it stores into ends with are
    what the run finds, as functions of the contents it starts from. -/
noncomputable def runB (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : ¬cond0_0 i)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    Σ' (Y7 : BufTy.Contents (Elt F) arg7.view.ty) (Y10 : BufTy.Contents (Elt F) arg10.view.ty), { Y11 : BufTy.Contents (Elt F) arg11.view.ty //
      ∀ (E : Set ℕ) (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} Y7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)) -∗ K ⟨⟩))
          ⊢ wp frame (wpE (defs₀ (F := F)) Variants.none c none) E (cc0_adaln_requant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_adaln_requant_eq_skeleton]; unfold cc0_adaln_requant_skel
    simp only [k0_part30_eq_skeleton, k0_part5_eq_skeleton, k0_part31_eq_skeleton, k0_part32_eq_skeleton, k0_part33_eq_skeleton, k0_part34_eq_skeleton, k0_part35_eq_skeleton]
    iintro ⟨H1, H2, H3, H4, H5, H6, H7, H8, H9, H10, H11, H12, H13, H14, H15, H16, H17, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iexists _; iexact H17

end Cert.KernelIdeal.Gen

end
-- ==== Proof.MScale.lean ====
/- The power-of-two scale on the extended reals: the kernel finds the exponent by eight comparisons with words shifted into
   the exponent field, the reference by a logarithm; the two agree. -/
module

public import Idealize.ShloMosaic.PureOps.Ideal
public import Idealize.ShloMosaic.Lib.ValueIdx

@[expose] public section

noncomputable section

namespace Cert.Math

open Idealize.ShloMosaic

/-- The extended real whose word is `t` in the exponent field. -/
def thr (t : BitVec 32) : EReal := Ideal.ofBits .f32 (IntOp.shli .vector t 23#32)

/-- One step of the search for the exponent field of `m`: add `s` if the field stays at most `m`'s. -/
def fstep (m : EReal) (f s : BitVec 32) : BitVec 32 :=
  Scalar.select (Ideal.cmp .oge m (thr (IntOp.addi f s))) (IntOp.addi f s) f

/-- The exponent field the kernel finds. -/
def kfield (m : EReal) : BitVec 32 :=
  fstep m (fstep m (fstep m (fstep m (fstep m (fstep m (fstep m (fstep m 0#32 128#32) 64#32) 32#32) 16#32) 8#32) 4#32) 2#32) 1#32

/-- The kernel's exponent for the field `f` of the magnitude `a`. -/
def kexp (a : EReal) (f : BitVec 32) : BitVec 32 :=
  Scalar.select (IntOp.ori (IntOp.ori (IntOp.cmpi .eq f 0#32) (IntOp.cmpi .eq f 255#32)) (Ideal.cmp .oeq a (Ideal.ofBits .f32 0x00000000#32)))
    0#32 (IntOp.subi f 126#32)

/-- The constant 1/448. -/
def c448 : EReal := Ideal.ofBits .f32 0x3B124925#32

/-- `|x|` as the instance has it. -/
def eabs (x : EReal) : EReal := max x (-x)

/-- The kernel's scale and reciprocal scale of the magnitude `a`. -/
def kscale (a : EReal) : EReal := thr (IntOp.addi 127#32 (kexp a (kfield (eabs (a * c448)))))
def kinv (a : EReal) : EReal := thr (IntOp.maxsi (IntOp.subi 127#32 (kexp a (kfield (eabs (a * c448))))) 0#32)

/-- The reference's exponent, scale and reciprocal scale of `r`. -/
def rexp (ln2 r : EReal) : EReal :=
  Scalar.select (IntOp.andi (Ideal.cmp .oge r (Ideal.ofBits .f32 0x00800000#32)) (Ideal.cmp .olt r (Ideal.ofBits .f32 0x7F800000#32)))
    (Ideal.liftRound Int.floor (Ideal.div (Ideal.log r) ln2) + Ideal.ofBits .f32 0x3F800000#32) (Ideal.ofBits .f32 0x00000000#32)
def rscale (ln2 r : EReal) : EReal :=
  Scalar.select (Ideal.cmp .olt (rexp ln2 r) (Ideal.ofBits .f32 0x43000000#32)) (Ideal.exp2 (rexp ln2 r)) (Ideal.ofBits .f32 0x7F800000#32)
def rinv (ln2 r : EReal) : EReal :=
  Scalar.select (Ideal.cmp .olt (rexp ln2 r) (Ideal.ofBits .f32 0x42FE0000#32)) (Ideal.exp2 (Ideal.ofBits .f32 0x00000000#32 - rexp ln2 r)) (Ideal.ofBits .f32 0x00000000#32)

/-! ### The thresholds -/

/-- The thresholds as a function of a natural number. -/
def T (n : ℕ) : EReal := if n = 0 then 0 else if n < 255 then (((2 : ℝ) ^ ((n : ℤ) - 127) : ℝ) : EReal) else ⊤

theorem word_ex (n : ℕ) (h : n ≤ 255) : ((BitVec.ofNat 32 n <<< 23).extractLsb' 23 8).toNat = n := by
  revert h; revert n; decide
theorem word_fr (n : ℕ) (h : n ≤ 255) : ((BitVec.ofNat 32 n <<< 23).extractLsb' 0 23).toNat = 0 := by
  revert h; revert n; decide
theorem word_sg (n : ℕ) (h : n ≤ 255) : ((BitVec.ofNat 32 n <<< 23).extractLsb' (8 + 23) 1 == 1#1) = false := by
  revert h; revert n; decide

theorem thr_ofNat (n : ℕ) (h : n ≤ 255) : thr (BitVec.ofNat 32 n) = T n := by
  have e : IntOp.shli .vector (BitVec.ofNat 32 n) 23#32 = BitVec.ofNat 32 n <<< 23 := by
    unfold IntOp.shli
    rw [if_pos (by decide)]; rfl
  rw [thr, e]
  show Ideal.ieee 8 23 _ = _
  unfold Ideal.ieee
  simp only [word_ex n h, word_fr n h, word_sg n h]
  unfold T
  by_cases hn : n = 255
  · subst hn; simp
  · by_cases h0 : n = 0
    · subst h0; simp
    · have hlt : n < 255 := by omega
      have hne : ¬ n = 2 ^ 8 - 1 := by norm_num; exact hn
      rw [if_neg hne, if_neg h0, if_neg h0, if_pos hlt]
      refine congrArg _ ?_
      simp only [Bool.false_eq_true, if_false, one_mul, add_zero]
      have e2 : (((2 ^ 23 : ℕ) : ℝ)) = (2 : ℝ) ^ (23 : ℤ) := by norm_num
      rw [e2, ← zpow_add₀ (by norm_num)]
      refine congrArg _ ?_
      norm_num

theorem fstep_spec (m : EReal) (f s : ℕ) (hs : f + s ≤ 255) :
    fstep m (BitVec.ofNat 32 f) (BitVec.ofNat 32 s) = BitVec.ofNat 32 (if T (f + s) ≤ m then f + s else f) := by
  have e : IntOp.addi (BitVec.ofNat 32 f) (BitVec.ofNat 32 s) = BitVec.ofNat 32 (f + s) := by
    show BitVec.ofNat 32 f + BitVec.ofNat 32 s = _
    rw [BitVec.ofNat_add]
  unfold fstep
  rw [e, thr_ofNat _ hs]
  unfold Scalar.select Ideal.cmp
  by_cases h : T (f + s) ≤ m
  · simp [h]
  · simp [h]

/-- What the search keeps: `f` with width `w` left. -/
def Inv (m : EReal) (w f : ℕ) : Prop := f + w ≤ 256 ∧ T f ≤ m ∧ (f + w = 256 ∨ m < T (f + w))

theorem inv_step (m : EReal) (s f : ℕ) (hs : 0 < s) (h : Inv m (s + s) f) :
    ∃ f', fstep m (BitVec.ofNat 32 f) (BitVec.ofNat 32 s) = BitVec.ofNat 32 f' ∧ Inv m s f' := by
  obtain ⟨h1, h2, h3⟩ := h
  refine ⟨_, fstep_spec m f s (by omega), ?_⟩
  by_cases h : T (f + s) ≤ m
  · rw [if_pos h]
    refine ⟨by omega, h, ?_⟩
    rcases h3 with h3 | h3
    · left; omega
    · right; rwa [Nat.add_assoc]
  · rw [if_neg h]
    exact ⟨by omega, h2, Or.inr (not_le.mp h)⟩

theorem kfield_spec (m : EReal) (hm : 0 ≤ m) : ∃ n : ℕ, kfield m = BitVec.ofNat 32 n ∧ n ≤ 255 ∧ T n ≤ m ∧ (n = 255 ∨ m < T (n + 1)) := by
  have h0 : Inv m (128 + 128) 0 := ⟨by omega, by simpa [T] using hm, Or.inl rfl⟩
  obtain ⟨f1, e1, h1⟩ := inv_step m 128 0 (by omega) h0
  obtain ⟨f2, e2, h2⟩ := inv_step m 64 f1 (by omega) h1
  obtain ⟨f3, e3, h3⟩ := inv_step m 32 f2 (by omega) h2
  obtain ⟨f4, e4, h4⟩ := inv_step m 16 f3 (by omega) h3
  obtain ⟨f5, e5, h5⟩ := inv_step m 8 f4 (by omega) h4
  obtain ⟨f6, e6, h6⟩ := inv_step m 4 f5 (by omega) h5
  obtain ⟨f7, e7, h7⟩ := inv_step m 2 f6 (by omega) h6
  obtain ⟨f8, e8, h8⟩ := inv_step m 1 f7 (by omega) h7
  refine ⟨f8, ?_, by have := h8.1; omega, h8.2.1, ?_⟩
  · unfold kfield
    rw [e1, e2, e3, e4, e5, e6, e7, e8]
  · rcases h8.2.2 with h | h
    · left; omega
    · right; exact h

theorem T_pos (n : ℕ) (h0 : n ≠ 0) (h : n < 255) : T n = (((2 : ℝ) ^ ((n : ℤ) - 127) : ℝ) : EReal) := by
  unfold T; rw [if_neg h0, if_pos h]

theorem T_255 : T 255 = ⊤ := by unfold T; simp
theorem T_0 : T 0 = 0 := by unfold T; simp

/-! ### The words as extended reals -/

theorem w_zero : Ideal.ofBits .f32 0x00000000#32 = 0 := by simp [Ideal.ofBits, Ideal.ieee]
theorem w_one : Ideal.ofBits .f32 0x3F800000#32 = 1 := by
  have := thr_ofNat 127 (by omega)
  rw [T_pos _ (by omega) (by omega)] at this
  have e : thr (BitVec.ofNat 32 127) = Ideal.ofBits .f32 0x3F800000#32 := by
    unfold thr; congr 1
  rw [← e, this]; norm_num
theorem w_inf : Ideal.ofBits .f32 0x7F800000#32 = ⊤ := by
  have := thr_ofNat 255 (by omega)
  rw [T_255] at this
  have e : thr (BitVec.ofNat 32 255) = Ideal.ofBits .f32 0x7F800000#32 := by
    unfold thr; congr 1
  rw [← e, this]
theorem w_tiny : Ideal.ofBits .f32 0x00800000#32 = T 1 := by
  rw [← thr_ofNat 1 (by omega)]; unfold thr; congr 1
theorem w_128 : Ideal.ofBits .f32 0x43000000#32 = ((128 : ℝ) : EReal) := by
  have := thr_ofNat 134 (by omega)
  rw [T_pos _ (by omega) (by omega)] at this
  have e : thr (BitVec.ofNat 32 134) = Ideal.ofBits .f32 0x43000000#32 := by
    unfold thr; congr 1
  rw [← e, this]; norm_num
theorem w_127 : Ideal.ofBits .f32 0x42FE0000#32 = ((127 : ℝ) : EReal) := by
  simp [Ideal.ofBits, Ideal.ieee, -EReal.coe_mul]
  norm_num
theorem w_bot : Ideal.ofBits .f32 0xFF800000#32 = ⊥ := by simp [Ideal.ofBits, Ideal.ieee]

/-! ### The two agree -/

/-- The field `n` of the magnitude, as the reference's exponent sees it. -/
theorem rexp_special (ln2 r : EReal) (h : r < T 1 ∨ r = ⊤) : rexp ln2 r = 0 := by
  unfold rexp
  rw [w_tiny, w_inf, w_one, w_zero]
  unfold Scalar.select Ideal.cmp IntOp.andi
  rcases h with h | h
  · simp [not_le.mpr h]
  · subst h; simp

theorem rexp_normal (r : ℝ) (h : T 1 ≤ (r : EReal)) :
    rexp ((Real.log 2 : ℝ) : EReal) (r : EReal) = ((⌊Real.log r / Real.log 2⌋ + 1 : ℝ) : EReal) := by
  have hl : Real.log 2 ≠ 0 := by have := Real.log_pos (show (1 : ℝ) < 2 by norm_num); positivity
  have hr : 0 < r := by
    rw [T_pos 1 (by omega) (by omega), EReal.coe_le_coe_iff] at h
    exact lt_of_lt_of_le (by positivity) h
  unfold rexp
  rw [w_tiny, w_inf, w_one, w_zero]
  unfold Scalar.select Ideal.cmp IntOp.andi
  have hlt : (r : EReal) < ⊤ := EReal.coe_lt_top r
  simp only [h, hlt, decide_true, BitVec.ofBool_true]
  rw [if_pos (by decide)]
  rw [Ideal.log_coe, if_neg (not_le.mpr hr)]
  unfold Ideal.div
  rw [if_neg (by simpa using hl), ← EReal.coe_inv, ← EReal.coe_mul, Ideal.liftRound_coe, ← div_eq_mul_inv]
  push_cast; rfl

theorem floor_log (r : ℝ) (z : ℤ) (h1 : (2 : ℝ) ^ z ≤ r) (h2 : r < (2 : ℝ) ^ (z + 1)) : ⌊Real.log r / Real.log 2⌋ = z := by
  have hl : 0 < Real.log 2 := Real.log_pos (by norm_num)
  have hr : 0 < r := lt_of_lt_of_le (by positivity) h1
  rw [Int.floor_eq_iff]
  constructor
  · rw [le_div_iff₀ hl]
    have := Real.log_le_log (by positivity) h1
    rwa [Real.log_zpow] at this
  · rw [div_lt_iff₀ hl]
    have := Real.log_lt_log hr h2
    rw [Real.log_zpow] at this
    push_cast at this
    exact this

theorem floor_log_ge (r : ℝ) (z : ℤ) (h1 : (2 : ℝ) ^ z ≤ r) : z ≤ ⌊Real.log r / Real.log 2⌋ := by
  have hl : 0 < Real.log 2 := Real.log_pos (by norm_num)
  rw [Int.le_floor, le_div_iff₀ hl]
  have := Real.log_le_log (by positivity) h1
  rwa [Real.log_zpow] at this

/-- The kernel's exponent is zero where the field is special. -/
theorem kexp_special (a : EReal) (f : BitVec 32) (h : f = 0#32 ∨ f = 255#32) : kexp a f = 0#32 := by
  unfold kexp Scalar.select
  rw [if_pos]
  generalize Ideal.cmp .oeq a (Ideal.ofBits .f32 0x00000000#32) = b
  rcases h with h | h <;> subst h <;> revert b <;> decide

theorem kexp_normal (a : EReal) (n : ℕ) (h0 : n ≠ 0) (h : n < 255) (ha : a ≠ 0) :
    kexp a (BitVec.ofNat 32 n) = BitVec.ofNat 32 n - 126#32 := by
  unfold kexp Scalar.select
  rw [w_zero]
  have e1 : IntOp.cmpi .eq (BitVec.ofNat 32 n) 0#32 = 0#1 := by revert h0; revert h; revert n; decide
  have e2 : IntOp.cmpi .eq (BitVec.ofNat 32 n) 255#32 = 0#1 := by clear e1; revert h0; revert h; revert n; decide
  rw [e1, e2]
  unfold Ideal.cmp
  simp only [ha, decide_false]
  rw [if_neg (by decide)]
  rfl

theorem scale_word (n : ℕ) (h0 : n ≠ 0) (h : n < 255) : IntOp.addi 127#32 (BitVec.ofNat 32 n - 126#32) = BitVec.ofNat 32 (n + 1) := by
  revert h0; revert h; revert n; decide

theorem inv_word (n : ℕ) (h0 : n ≠ 0) (h : n < 255) :
    IntOp.maxsi (IntOp.subi 127#32 (BitVec.ofNat 32 n - 126#32)) 0#32 = BitVec.ofNat 32 (253 - n) := by
  revert h0; revert h; revert n; decide

theorem eabs_nonneg (x : EReal) : 0 ≤ eabs x := by
  unfold eabs
  rcases le_total 0 x with h | h
  · exact le_max_of_le_left h
  · exact le_max_of_le_right (by simpa using EReal.neg_le_neg_iff.mpr h)

theorem rscale_zero_exp (ln2 r : EReal) (h : rexp ln2 r = 0) : rscale ln2 r = 1 ∧ rinv ln2 r = 1 := by
  unfold rscale rinv
  rw [h, w_128, w_127, w_zero, w_inf]
  unfold Scalar.select Ideal.cmp
  have e : Ideal.exp2 0 = 1 := by
    rw [show (0 : EReal) = ((0 : ℝ) : EReal) from rfl, Ideal.exp2_coe]
    simp
  have h1 : (0 : EReal) < ((128 : ℝ) : EReal) := by exact_mod_cast (by norm_num : (0 : ℝ) < 128)
  have h2 : (0 : EReal) < ((127 : ℝ) : EReal) := by exact_mod_cast (by norm_num : (0 : ℝ) < 127)
  simp [h1, h2, e]

theorem rscale_small (ln2 r : EReal) (z : ℤ) (hz : z < 128) (h : rexp ln2 r = ((z : ℝ) : EReal)) :
    rscale ln2 r = (((2 : ℝ) ^ z : ℝ) : EReal) := by
  unfold rscale
  rw [h, w_128]
  unfold Scalar.select Ideal.cmp
  have h1 : ((z : ℝ) : EReal) < ((128 : ℝ) : EReal) := by exact_mod_cast hz
  rw [if_pos (by simp only [h1, decide_true]; decide), Ideal.exp2_coe]
  congr 1
  exact Real.rpow_intCast 2 z

theorem rinv_small (ln2 r : EReal) (z : ℤ) (hz : z < 127) (h : rexp ln2 r = ((z : ℝ) : EReal)) :
    rinv ln2 r = (((2 : ℝ) ^ (-z) : ℝ) : EReal) := by
  unfold rinv
  rw [h, w_127, w_zero]
  unfold Scalar.select Ideal.cmp
  have h1 : ((z : ℝ) : EReal) < ((127 : ℝ) : EReal) := by exact_mod_cast hz
  rw [if_pos (by simp only [h1, decide_true]; decide), zero_sub, ← EReal.coe_neg, Ideal.exp2_coe]
  congr 1
  rw [← Int.cast_neg]
  exact Real.rpow_intCast 2 (-z)

theorem rscale_big (ln2 r : EReal) (z : ℤ) (hz : 128 ≤ z) (h : rexp ln2 r = ((z : ℝ) : EReal)) : rscale ln2 r = ⊤ := by
  unfold rscale
  rw [h, w_128, w_inf]
  unfold Scalar.select Ideal.cmp
  have h1 : ¬ ((z : ℝ) : EReal) < ((128 : ℝ) : EReal) := by
    rw [not_lt]; exact_mod_cast hz
  rw [if_neg (by simp only [h1, decide_false]; decide)]

theorem rinv_big (ln2 r : EReal) (z : ℤ) (hz : 127 ≤ z) (h : rexp ln2 r = ((z : ℝ) : EReal)) : rinv ln2 r = 0 := by
  unfold rinv
  rw [h, w_127, w_zero]
  unfold Scalar.select Ideal.cmp
  have h1 : ¬ ((z : ℝ) : EReal) < ((127 : ℝ) : EReal) := by
    rw [not_lt]; exact_mod_cast hz
  rw [if_neg (by simp only [h1, decide_false]; decide)]

/-- The kernel's scale and reciprocal scale of `a` are the reference's of `|a · (1/448)|`. -/
theorem kscale_kinv (a : EReal) :
    kscale a = rscale ((Real.log 2 : ℝ) : EReal) (eabs (a * c448)) ∧ kinv a = rinv ((Real.log 2 : ℝ) : EReal) (eabs (a * c448)) := by
  obtain ⟨n, hn, hle, hlo, hhi⟩ := kfield_spec _ (eabs_nonneg (a * c448))
  unfold kscale kinv
  rw [hn]
  generalize hr : eabs (a * c448) = r at hlo hhi ⊢
  by_cases hsp : n = 0 ∨ n = 255
  · have e0 : rexp ((Real.log 2 : ℝ) : EReal) r = 0 := by
      apply rexp_special
      rcases hsp with h | h
      · subst h
        left
        rcases hhi with h | h
        · omega
        · exact h
      · subst h
        right
        rw [T_255] at hlo
        exact top_le_iff.mp hlo
    obtain ⟨r1, r2⟩ := rscale_zero_exp _ _ e0
    rw [r1, r2, kexp_special a _ (by rcases hsp with h | h <;> subst h <;> simp)]
    have t1 : T 127 = 1 := by rw [T_pos _ (by omega) (by omega)]; norm_num
    constructor
    · rw [← t1, ← thr_ofNat 127 (by omega)]; congr 1
    · rw [← t1, ← thr_ofNat 127 (by omega)]; congr 1
  · rw [not_or] at hsp
    have hlt : n < 255 := by omega
    have ha : a ≠ 0 := by
      rintro rfl
      rw [zero_mul] at hr
      have : r = 0 := by rw [← hr]; simp [eabs]
      rw [this, T_pos n hsp.1 hlt] at hlo
      have : (2 : ℝ) ^ ((n : ℤ) - 127) ≤ 0 := by exact_mod_cast hlo
      exact absurd this (not_le.mpr (by positivity))
    rw [kexp_normal a n hsp.1 hlt ha, scale_word n hsp.1 hlt, inv_word n hsp.1 hlt, thr_ofNat _ (by omega), thr_ofNat _ (by omega)]
    have hrt : r < ⊤ := by
      rcases hhi with h | h
      · omega
      · exact lt_of_lt_of_le h le_top
    have hr0 : r ≠ ⊥ := by
      rintro rfl
      rw [T_pos n hsp.1 hlt] at hlo
      exact absurd hlo (by simp)
    lift r to ℝ using ⟨hrt.ne, hr0⟩
    rw [T_pos n hsp.1 hlt, EReal.coe_le_coe_iff] at hlo
    have h1 : T 1 ≤ (r : EReal) := by
      rw [T_pos 1 (by omega) (by omega), EReal.coe_le_coe_iff]
      refine le_trans ?_ hlo
      apply zpow_le_zpow_right₀ (by norm_num)
      have := hsp.1
      omega
    have he := rexp_normal r h1
    by_cases h254 : n = 254
    · subst h254
      have hz := floor_log_ge r 127 (by simpa using hlo)
      have he' : rexp ((Real.log 2 : ℝ) : EReal) (r : EReal) = (((⌊Real.log r / Real.log 2⌋ + 1 : ℤ) : ℝ) : EReal) := by
        rw [he]; push_cast; rfl
      rw [rscale_big _ _ _ (by omega) he', rinv_big _ _ _ (by omega) he']
      exact ⟨T_255, T_0⟩
    · have hlt' : n < 254 := by omega
      have hhi' : r < (2 : ℝ) ^ (((n : ℤ) - 127) + 1) := by
        rcases hhi with h | h
        · omega
        · rw [T_pos (n + 1) (by omega) (by omega), EReal.coe_lt_coe_iff] at h
          convert h using 2
          push_cast; ring
      have hz := floor_log r _ hlo hhi'
      have he' : rexp ((Real.log 2 : ℝ) : EReal) (r : EReal) = ((((n : ℤ) - 126 : ℤ) : ℝ) : EReal) := by
        rw [he, hz]
        refine congrArg _ ?_
        push_cast; ring
      rw [rscale_small _ _ _ (by omega) he', T_pos (n + 1) (by omega) (by omega)]
      refine ⟨by congr 2; push_cast; ring, ?_⟩
      by_cases h253 : n = 253
      · subst h253
        rw [rinv_big _ _ _ (by norm_num) he']
        exact T_0
      · rw [rinv_small _ _ _ (by omega) he', T_pos (253 - n) (by omega) (by omega)]
        congr 2
        push_cast [Nat.cast_sub (show n ≤ 253 by omega)]
        ring

end Cert.Math

end
-- ==== Proof.VLoop3.lean ====
/- The modulation loop of the kernel: what it stores, in closed form, on the extended reals. -/
module

public import proofs.«01_k».proof.Proof.KRunB
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

/-- A list of stored pieces that agrees with `G` and covers the indices satisfying `P`. -/
def Good {s : Shape} {e : EltTy} (P : s.Idx → Prop) (G : s.Idx → Elt Ideal e) (L : List (View.Piece (Elt Ideal) s e)) : Prop :=
  (∀ p ∈ L, ∀ x : p.1.shape.Idx, p.2 x = G (p.1.emb x)) ∧ ∀ y, P y → ∃ p ∈ L, y ∈ p.1.set

theorem Good.nil {s : Shape} {e : EltTy} {P : s.Idx → Prop} {G : s.Idx → Elt Ideal e} (h : ∀ y, ¬ P y) : Good P G [] :=
  ⟨fun p hp => absurd hp List.not_mem_nil, fun y hy => absurd hy (h y)⟩

theorem Good.append {s : Shape} {e : EltTy} {P Q R : s.Idx → Prop} {G : s.Idx → Elt Ideal e}
    {T L : List (View.Piece (Elt Ideal) s e)} (hT : Good P G T) (hL : Good Q G L) (h : ∀ y, R y → P y ∨ Q y) : Good R G (T ++ L) := by
  refine ⟨fun p hp => ?_, fun y hy => ?_⟩
  · rcases List.mem_append.1 hp with hp | hp
    · exact hT.1 p hp
    · exact hL.1 p hp
  · rcases h y hy with hy | hy
    · obtain ⟨p, hp, hm⟩ := hT.2 y hy; exact ⟨p, List.mem_append_left _ hp, hm⟩
    · obtain ⟨p, hp, hm⟩ := hL.2 y hy; exact ⟨p, List.mem_append_right _ hp, hm⟩

theorem Good.weaken {s : Shape} {e : EltTy} {P R : s.Idx → Prop} {G : s.Idx → Elt Ideal e}
    {L : List (View.Piece (Elt Ideal) s e)} (hL : Good P G L) (h : ∀ y, R y → P y) : Good R G L :=
  ⟨hL.1, fun y hy => hL.2 y (h y hy)⟩

theorem Good.read {sig : RefSig} {κ : Kind} {sp : Space} {s : Shape} {e : EltTy} (v : View sig κ sp s e) (f)
    {P : s.Idx → Prop} {G : s.Idx → Elt Ideal e} {L : List (View.Piece (Elt Ideal) s e)} (hL : Good P G L) (y) (hy : P y) :
    v.read (Elt Ideal) (v.writes (Elt Ideal) f L) y = G y :=
  View.read_writes_apply_of_pieces v f G L hL.1 y (hL.2 y hy)

/-- The modulated weight: row `r` of the block times row `r % 8` of the modulation. -/
def Gt (W : S256x2304.Idx → EReal) (M : S2x8x2304.Idx → EReal) : S2x256x2304.Idx → EReal :=
  fun j => W (ix2 (j 1) (j 2)) * M (ix3 (j 0) ⟨(j 1).val % 8, Nat.mod_lt _ (by decide)⟩ (j 2))

/-- Column `l` of the `c`-th group of 128 columns. -/
def col (c : Fin 18) (l : Fin 128) : Fin 2304 := ⟨128 * c.val + l.val, by omega⟩

/-- The greatest of eighteen values, taken one after the other. -/
def max18 (g : Fin 18 → EReal) : EReal :=
  max (max (max (max (max (max (max (max (max (max (max (max (max (max (max (max (max (g 0) (g 1)) (g 2)) (g 3)) (g 4)) (g 5)) (g 6)) (g 7)) (g 8)) (g 9)) (g 10)) (g 11)) (g 12)) (g 13)) (g 14)) (g 15)) (g 16)) (g 17)

/-- The greatest magnitude of the modulated weight over the columns of one lane. -/
def Gpm (W : S256x2304.Idx → EReal) (M : S2x8x2304.Idx → EReal) : S2x256x128.Idx → EReal :=
  fun j => max18 fun c => Cert.Math.eabs (Gt W M (ix3 (j 0) (j 1) (col c (j 2))))

theorem chunk_apply (w : Vec Ideal S32x128 .fp8e4m3) (m : Vec Ideal S1x8x128 .f32) (r : Fin 32) (l : Fin 128) :
    k0_pay25 (F := Ideal) w m (ix2 r l) = w (ix2 r l) * m (ix3 0 ⟨r.val % 8, Nat.mod_lt _ (by decide)⟩ l) := by
  pointwise [k0_pay25, k0_pay24]

theorem pay26_apply (w : Vec Ideal S32x128 .fp8e4m3) (m : Vec Ideal S1x8x128 .f32) (z : Fin 1) (r : Fin 32) (l : Fin 128) :
    k0_pay26 (F := Ideal) w m (ix3 z r l) = w (ix2 r l) * m (ix3 0 ⟨r.val % 8, Nat.mod_lt _ (by decide)⟩ l) := by
  pointwise [k0_pay26, k0_pay25, k0_pay24]

/-- The running maximum over the eighteen chunks, as stored. -/
def pmVec (w : Fin 18 → Vec Ideal S32x128 .fp8e4m3) (m : Fin 18 → Vec Ideal S1x8x128 .f32) : Vec Ideal S1x32x128 .f32 :=
  shapeCast S1x32x128 (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (maximumf (F := Ideal) (absf (F := Ideal) (k0_pay25 (F := Ideal) (w 0) (m 0))) (absf (F := Ideal) (k0_pay25 (F := Ideal) (w 1) (m 1)))) (absf (F := Ideal) (k0_pay25 (F := Ideal) (w 2) (m 2)))) (absf (F := Ideal) (k0_pay25 (F := Ideal) (w 3) (m 3)))) (absf (F := Ideal) (k0_pay25 (F := Ideal) (w 4) (m 4)))) (absf (F := Ideal) (k0_pay25 (F := Ideal) (w 5) (m 5)))) (absf (F := Ideal) (k0_pay25 (F := Ideal) (w 6) (m 6)))) (absf (F := Ideal) (k0_pay25 (F := Ideal) (w 7) (m 7)))) (absf (F := Ideal) (k0_pay25 (F := Ideal) (w 8) (m 8)))) (absf (F := Ideal) (k0_pay25 (F := Ideal) (w 9) (m 9)))) (absf (F := Ideal) (k0_pay25 (F := Ideal) (w 10) (m 10)))) (absf (F := Ideal) (k0_pay25 (F := Ideal) (w 11) (m 11)))) (absf (F := Ideal) (k0_pay25 (F := Ideal) (w 12) (m 12)))) (absf (F := Ideal) (k0_pay25 (F := Ideal) (w 13) (m 13)))) (absf (F := Ideal) (k0_pay25 (F := Ideal) (w 14) (m 14)))) (absf (F := Ideal) (k0_pay25 (F := Ideal) (w 15) (m 15)))) (absf (F := Ideal) (k0_pay25 (F := Ideal) (w 16) (m 16)))) (absf (F := Ideal) (k0_pay25 (F := Ideal) (w 17) (m 17)))) shapeCasts_S32x128_S1x32x128

theorem pmVec_apply (w : Fin 18 → Vec Ideal S32x128 .fp8e4m3) (m : Fin 18 → Vec Ideal S1x8x128 .f32) (z : Fin 1) (r : Fin 32) (l : Fin 128) :
    pmVec w m (ix3 z r l) = max18 fun c => Cert.Math.eabs (w c (ix2 r l) * m c (ix3 0 ⟨r.val % 8, Nat.mod_lt _ (by decide)⟩ l)) := by
  pointwise [pmVec]
  simp only [chunk_apply]
  rfl

theorem elt_t (arg4 : Memref sig .tc .vmem S256x2304 .fp8e4m3) (arg12 : Memref sig .tc .vmem S2x8x2304 .f32)
    (X4 : BufTy.Contents (Elt Ideal) arg4.view.ty) (X12 : BufTy.Contents (Elt Ideal) arg12.view.ty)
    (offW : Fin 2 → ℕ) (hw) (offM : Fin 3 → ℕ) (hm) (b k c : ℕ) (hb : b < 2) (hk : 32 * k + 32 ≤ 256) (hc : c + 128 ≤ 2304)
    (eW : offW = ![32 * k, c]) (eM : offM = ![b, 0, c])
    (r : Fin 32) (l : Fin 128) :
    View.readAt (Elt Ideal) arg4.view (Rect.unit (s := S256x2304) offW S32x128.size hw).toLoadRect X4 (ix2 r l)
      * View.readAt (Elt Ideal) arg12.view (Rect.unit (s := S2x8x2304) offM S1x8x128.size hm).toLoadRect X12 (ix3 0 ⟨r.val % 8, Nat.mod_lt _ (by decide)⟩ l)
      = Gt (arg4.view.read (Elt Ideal) X4) (arg12.view.read (Elt Ideal) X12) (ix3 ⟨b, hb⟩ ⟨32 * k + r.val, by omega⟩ ⟨c + l.val, by omega⟩) := by
  subst eW eM
  simp only [View.readAt_apply]
  unfold Gt
  refine congrArg₂ (· * ·) (congrArg _ ?_) (congrArg _ ?_)
  · funext a; apply Fin.ext; fin_cases a <;> simp [Rect.unit, Rect.emb, LoadRect.idx]
  · funext a; apply Fin.ext; fin_cases a <;> simp [Rect.unit, Rect.emb, LoadRect.idx]
    all_goals omega

theorem piece_t (arg4 : Memref sig .tc .vmem S256x2304 .fp8e4m3) (arg12 : Memref sig .tc .vmem S2x8x2304 .f32)
    (X4 : BufTy.Contents (Elt Ideal) arg4.view.ty) (X12 : BufTy.Contents (Elt Ideal) arg12.view.ty)
    (off : Fin 3 → ℕ) (h) (offW : Fin 2 → ℕ) (hw) (offM : Fin 3 → ℕ) (hm) (b k c : ℕ)
    (e : off = ![b, 32 * k, c]) (eW : offW = ![32 * k, c]) (eM : offM = ![b, 0, c])
    (x : S1x32x128.Idx) :
    k0_pay26 (F := Ideal) (View.readAt (Elt Ideal) arg4.view (Rect.unit (s := S256x2304) offW S32x128.size hw).toLoadRect X4)
      (View.readAt (Elt Ideal) arg12.view (Rect.unit (s := S2x8x2304) offM S1x8x128.size hm).toLoadRect X12) x
      = Gt (arg4.view.read (Elt Ideal) X4) (arg12.view.read (Elt Ideal) X12) ((Rect.unit (s := S2x256x2304) off S1x32x128.size h).emb x) := by
  subst e
  have hb : b + 1 ≤ 2 := h 0
  have hk : 32 * k + 32 ≤ 256 := h 1
  have hc : c + 128 ≤ 2304 := h 2
  idx_vars x
  refine (pay26_apply _ _ _ _ _).trans ((elt_t arg4 arg12 X4 X12 offW hw offM hm b k c (by omega) hk hc eW eM _ _).trans (congrArg _ ?_))
  funext a; apply Fin.ext; fin_cases a <;> simp [Rect.unit, Rect.emb]

theorem piece_pm (arg4 : Memref sig .tc .vmem S256x2304 .fp8e4m3) (arg12 : Memref sig .tc .vmem S2x8x2304 .f32)
    (X4 : BufTy.Contents (Elt Ideal) arg4.view.ty) (X12 : BufTy.Contents (Elt Ideal) arg12.view.ty)
    (off : Fin 3 → ℕ) (h) (offW : Fin 18 → Fin 2 → ℕ) (hw : ∀ c a, offW c a + S32x128.size a ≤ S256x2304.size a) (offM : Fin 18 → Fin 3 → ℕ) (hm : ∀ c a, offM c a + S1x8x128.size a ≤ S2x8x2304.size a) (b k : ℕ)
    (e : off = ![b, 32 * k, 0]) (eW : ∀ c, offW c = ![32 * k, 128 * c.val]) (eM : ∀ c, offM c = ![b, 0, 128 * c.val])
    (x : S1x32x128.Idx) :
    pmVec (fun c => View.readAt (Elt Ideal) arg4.view (Rect.unit (s := S256x2304) (offW c) S32x128.size (hw c)).toLoadRect X4)
      (fun c => View.readAt (Elt Ideal) arg12.view (Rect.unit (s := S2x8x2304) (offM c) S1x8x128.size (hm c)).toLoadRect X12) x
      = Gpm (arg4.view.read (Elt Ideal) X4) (arg12.view.read (Elt Ideal) X12) ((Rect.unit (s := S2x256x128) off S1x32x128.size h).emb x) := by
  subst e
  have hb : b + 1 ≤ 2 := h 0
  have hk : 32 * k + 32 ≤ 256 := h 1
  idx_vars x
  refine (pmVec_apply _ _ _ _ _).trans ?_
  unfold Gpm
  refine congrArg max18 (funext fun c => congrArg _ ?_)
  refine (elt_t arg4 arg12 X4 X12 (offW c) (hw c) (offM c) (hm c) b k (128 * c.val) (by omega) hk (by omega) (eW c) (eM c) _ _).trans (congrArg _ ?_)
  funext a; apply Fin.ext; fin_cases a <;> simp [Rect.unit, Rect.emb, col]

theorem offW_inb (k : Fin k0_t3_loop.trips) (c : Fin 18) : ∀ a, (![k0_off5 k, k0_off8 k, k0_off11 k, k0_off14 k, k0_off17 k, k0_off20 k, k0_off23 k, k0_off26 k, k0_off29 k, k0_off32 k, k0_off35 k, k0_off38 k, k0_off41 k, k0_off44 k, k0_off47 k, k0_off50 k, k0_off53 k, k0_off56 k] : Fin 18 → Fin 2 → ℕ) c a + S32x128.size a ≤ S256x2304.size a := by
  fin_cases c
  · exact k0_off5_inb k
  · exact k0_off8_inb k
  · exact k0_off11_inb k
  · exact k0_off14_inb k
  · exact k0_off17_inb k
  · exact k0_off20_inb k
  · exact k0_off23_inb k
  · exact k0_off26_inb k
  · exact k0_off29_inb k
  · exact k0_off32_inb k
  · exact k0_off35_inb k
  · exact k0_off38_inb k
  · exact k0_off41_inb k
  · exact k0_off44_inb k
  · exact k0_off47_inb k
  · exact k0_off50_inb k
  · exact k0_off53_inb k
  · exact k0_off56_inb k
theorem offW_eq (k : Fin k0_t3_loop.trips) (c : Fin 18) : (![k0_off5 k, k0_off8 k, k0_off11 k, k0_off14 k, k0_off17 k, k0_off20 k, k0_off23 k, k0_off26 k, k0_off29 k, k0_off32 k, k0_off35 k, k0_off38 k, k0_off41 k, k0_off44 k, k0_off47 k, k0_off50 k, k0_off53 k, k0_off56 k] : Fin 18 → Fin 2 → ℕ) c = ![32 * k.val, 128 * c.val] := by
  fin_cases c
  · exact k0_off5_eq k
  · exact k0_off8_eq k
  · exact k0_off11_eq k
  · exact k0_off14_eq k
  · exact k0_off17_eq k
  · exact k0_off20_eq k
  · exact k0_off23_eq k
  · exact k0_off26_eq k
  · exact k0_off29_eq k
  · exact k0_off32_eq k
  · exact k0_off35_eq k
  · exact k0_off38_eq k
  · exact k0_off41_eq k
  · exact k0_off44_eq k
  · exact k0_off47_eq k
  · exact k0_off50_eq k
  · exact k0_off53_eq k
  · exact k0_off56_eq k
theorem offM0_inb (c : Fin 18) : ∀ a, (![![0, 0, 0], ![0, 0, 128], ![0, 0, 256], ![0, 0, 384], ![0, 0, 512], ![0, 0, 640], ![0, 0, 768], ![0, 0, 896], ![0, 0, 1024], ![0, 0, 1152], ![0, 0, 1280], ![0, 0, 1408], ![0, 0, 1536], ![0, 0, 1664], ![0, 0, 1792], ![0, 0, 1920], ![0, 0, 2048], ![0, 0, 2176]] : Fin 18 → Fin 3 → ℕ) c a + S1x8x128.size a ≤ S2x8x2304.size a := by
  fin_cases c
  · exact inb_S2x8x2304_S1x8x128_0_0_0
  · exact inb_S2x8x2304_S1x8x128_0_0_128
  · exact inb_S2x8x2304_S1x8x128_0_0_256
  · exact inb_S2x8x2304_S1x8x128_0_0_384
  · exact inb_S2x8x2304_S1x8x128_0_0_512
  · exact inb_S2x8x2304_S1x8x128_0_0_640
  · exact inb_S2x8x2304_S1x8x128_0_0_768
  · exact inb_S2x8x2304_S1x8x128_0_0_896
  · exact inb_S2x8x2304_S1x8x128_0_0_1024
  · exact inb_S2x8x2304_S1x8x128_0_0_1152
  · exact inb_S2x8x2304_S1x8x128_0_0_1280
  · exact inb_S2x8x2304_S1x8x128_0_0_1408
  · exact inb_S2x8x2304_S1x8x128_0_0_1536
  · exact inb_S2x8x2304_S1x8x128_0_0_1664
  · exact inb_S2x8x2304_S1x8x128_0_0_1792
  · exact inb_S2x8x2304_S1x8x128_0_0_1920
  · exact inb_S2x8x2304_S1x8x128_0_0_2048
  · exact inb_S2x8x2304_S1x8x128_0_0_2176
theorem offM1_inb (c : Fin 18) : ∀ a, (![![1, 0, 0], ![1, 0, 128], ![1, 0, 256], ![1, 0, 384], ![1, 0, 512], ![1, 0, 640], ![1, 0, 768], ![1, 0, 896], ![1, 0, 1024], ![1, 0, 1152], ![1, 0, 1280], ![1, 0, 1408], ![1, 0, 1536], ![1, 0, 1664], ![1, 0, 1792], ![1, 0, 1920], ![1, 0, 2048], ![1, 0, 2176]] : Fin 18 → Fin 3 → ℕ) c a + S1x8x128.size a ≤ S2x8x2304.size a := by
  fin_cases c
  · exact inb_S2x8x2304_S1x8x128_1_0_0
  · exact inb_S2x8x2304_S1x8x128_1_0_128
  · exact inb_S2x8x2304_S1x8x128_1_0_256
  · exact inb_S2x8x2304_S1x8x128_1_0_384
  · exact inb_S2x8x2304_S1x8x128_1_0_512
  · exact inb_S2x8x2304_S1x8x128_1_0_640
  · exact inb_S2x8x2304_S1x8x128_1_0_768
  · exact inb_S2x8x2304_S1x8x128_1_0_896
  · exact inb_S2x8x2304_S1x8x128_1_0_1024
  · exact inb_S2x8x2304_S1x8x128_1_0_1152
  · exact inb_S2x8x2304_S1x8x128_1_0_1280
  · exact inb_S2x8x2304_S1x8x128_1_0_1408
  · exact inb_S2x8x2304_S1x8x128_1_0_1536
  · exact inb_S2x8x2304_S1x8x128_1_0_1664
  · exact inb_S2x8x2304_S1x8x128_1_0_1792
  · exact inb_S2x8x2304_S1x8x128_1_0_1920
  · exact inb_S2x8x2304_S1x8x128_1_0_2048
  · exact inb_S2x8x2304_S1x8x128_1_0_2176

theorem mem_of {N : ℕ} (off : Fin 3 → ℕ) (h) (b k c : ℕ) (e : off = ![b, 32 * k, c]) (y0 : Fin 2) (y1 : Fin 256) (y2 : Fin N)
    (h0 : y0.val = b) (h1 : 32 * k ≤ y1.val) (h2 : y1.val < 32 * k + 32) (h3 : c ≤ y2.val) (h4 : y2.val < c + 128) :
    (ix3 y0 y1 y2 : (⟨3, ![2, 256, N]⟩ : Shape).Idx) ∈ (Rect.unit (s := ⟨3, ![2, 256, N]⟩) off S1x32x128.size h).set := by
  subst e
  rw [Rect.mem_set_unit]
  intro a
  fin_cases a
  · exact ⟨(by show b ≤ y0.val; omega), (by show y0.val < b + 1; omega)⟩
  · exact ⟨h1, h2⟩
  · exact ⟨h3, h4⟩

section
variable (c : Dev nD) (bd : Option Variants.none.V) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (X4 : BufTy.Contents (Elt Ideal) arg4.view.ty) (X12 : BufTy.Contents (Elt Ideal) arg12.view.ty)

theorem trip3_t (k : Fin k0_t3_loop.trips) : Good (fun y => 32 * k.val ≤ (y 1).val ∧ (y 1).val < 32 * k.val + 32) (Gt (arg4.view.read (Elt Ideal) X4) (arg12.view.read (Elt Ideal) X12)) (trip_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 k).1 := by
  unfold trip_k0_t3
  dsimp only
  refine ⟨?_, ?_⟩
  · refine List.forall_mem_cons.2 ⟨fun x => piece_t arg4 arg12 X4 X12 (k0_off58 k) (k0_off58_inb k) (k0_off56 k) (k0_off56_inb k) ![1, 0, 2176] inb_S2x8x2304_S1x8x128_1_0_2176 1 k.val 2176 (k0_off58_eq k) (k0_off56_eq k) rfl x, ?_⟩
    refine List.forall_mem_cons.2 ⟨fun x => piece_t arg4 arg12 X4 X12 (k0_off57 k) (k0_off57_inb k) (k0_off56 k) (k0_off56_inb k) ![0, 0, 2176] inb_S2x8x2304_S1x8x128_0_0_2176 0 k.val 2176 (k0_off57_eq k) (k0_off56_eq k) rfl x, ?_⟩
    refine List.forall_mem_cons.2 ⟨fun x => piece_t arg4 arg12 X4 X12 (k0_off55 k) (k0_off55_inb k) (k0_off53 k) (k0_off53_inb k) ![1, 0, 2048] inb_S2x8x2304_S1x8x128_1_0_2048 1 k.val 2048 (k0_off55_eq k) (k0_off53_eq k) rfl x, ?_⟩
    refine List.forall_mem_cons.2 ⟨fun x => piece_t arg4 arg12 X4 X12 (k0_off54 k) (k0_off54_inb k) (k0_off53 k) (k0_off53_inb k) ![0, 0, 2048] inb_S2x8x2304_S1x8x128_0_0_2048 0 k.val 2048 (k0_off54_eq k) (k0_off53_eq k) rfl x, ?_⟩
    refine List.forall_mem_cons.2 ⟨fun x => piece_t arg4 arg12 X4 X12 (k0_off52 k) (k0_off52_inb k) (k0_off50 k) (k0_off50_inb k) ![1, 0, 1920] inb_S2x8x2304_S1x8x128_1_0_1920 1 k.val 1920 (k0_off52_eq k) (k0_off50_eq k) rfl x, ?_⟩
    refine List.forall_mem_cons.2 ⟨fun x => piece_t arg4 arg12 X4 X12 (k0_off51 k) (k0_off51_inb k) (k0_off50 k) (k0_off50_inb k) ![0, 0, 1920] inb_S2x8x2304_S1x8x128_0_0_1920 0 k.val 1920 (k0_off51_eq k) (k0_off50_eq k) rfl x, ?_⟩
    refine List.forall_mem_cons.2 ⟨fun x => piece_t arg4 arg12 X4 X12 (k0_off49 k) (k0_off49_inb k) (k0_off47 k) (k0_off47_inb k) ![1, 0, 1792] inb_S2x8x2304_S1x8x128_1_0_1792 1 k.val 1792 (k0_off49_eq k) (k0_off47_eq k) rfl x, ?_⟩
    refine List.forall_mem_cons.2 ⟨fun x => piece_t arg4 arg12 X4 X12 (k0_off48 k) (k0_off48_inb k) (k0_off47 k) (k0_off47_inb k) ![0, 0, 1792] inb_S2x8x2304_S1x8x128_0_0_1792 0 k.val 1792 (k0_off48_eq k) (k0_off47_eq k) rfl x, ?_⟩
    refine List.forall_mem_cons.2 ⟨fun x => piece_t arg4 arg12 X4 X12 (k0_off46 k) (k0_off46_inb k) (k0_off44 k) (k0_off44_inb k) ![1, 0, 1664] inb_S2x8x2304_S1x8x128_1_0_1664 1 k.val 1664 (k0_off46_eq k) (k0_off44_eq k) rfl x, ?_⟩
    refine List.forall_mem_cons.2 ⟨fun x => piece_t arg4 arg12 X4 X12 (k0_off45 k) (k0_off45_inb k) (k0_off44 k) (k0_off44_inb k) ![0, 0, 1664] inb_S2x8x2304_S1x8x128_0_0_1664 0 k.val 1664 (k0_off45_eq k) (k0_off44_eq k) rfl x, ?_⟩
    refine List.forall_mem_cons.2 ⟨fun x => piece_t arg4 arg12 X4 X12 (k0_off43 k) (k0_off43_inb k) (k0_off41 k) (k0_off41_inb k) ![1, 0, 1536] inb_S2x8x2304_S1x8x128_1_0_1536 1 k.val 1536 (k0_off43_eq k) (k0_off41_eq k) rfl x, ?_⟩
    refine List.forall_mem_cons.2 ⟨fun x => piece_t arg4 arg12 X4 X12 (k0_off42 k) (k0_off42_inb k) (k0_off41 k) (k0_off41_inb k) ![0, 0, 1536] inb_S2x8x2304_S1x8x128_0_0_1536 0 k.val 1536 (k0_off42_eq k) (k0_off41_eq k) rfl x, ?_⟩
    refine List.forall_mem_cons.2 ⟨fun x => piece_t arg4 arg12 X4 X12 (k0_off40 k) (k0_off40_inb k) (k0_off38 k) (k0_off38_inb k) ![1, 0, 1408] inb_S2x8x2304_S1x8x128_1_0_1408 1 k.val 1408 (k0_off40_eq k) (k0_off38_eq k) rfl x, ?_⟩
    refine List.forall_mem_cons.2 ⟨fun x => piece_t arg4 arg12 X4 X12 (k0_off39 k) (k0_off39_inb k) (k0_off38 k) (k0_off38_inb k) ![0, 0, 1408] inb_S2x8x2304_S1x8x128_0_0_1408 0 k.val 1408 (k0_off39_eq k) (k0_off38_eq k) rfl x, ?_⟩
    refine List.forall_mem_cons.2 ⟨fun x => piece_t arg4 arg12 X4 X12 (k0_off37 k) (k0_off37_inb k) (k0_off35 k) (k0_off35_inb k) ![1, 0, 1280] inb_S2x8x2304_S1x8x128_1_0_1280 1 k.val 1280 (k0_off37_eq k) (k0_off35_eq k) rfl x, ?_⟩
    refine List.forall_mem_cons.2 ⟨fun x => piece_t arg4 arg12 X4 X12 (k0_off36 k) (k0_off36_inb k) (k0_off35 k) (k0_off35_inb k) ![0, 0, 1280] inb_S2x8x2304_S1x8x128_0_0_1280 0 k.val 1280 (k0_off36_eq k) (k0_off35_eq k) rfl x, ?_⟩
    refine List.forall_mem_cons.2 ⟨fun x => piece_t arg4 arg12 X4 X12 (k0_off34 k) (k0_off34_inb k) (k0_off32 k) (k0_off32_inb k) ![1, 0, 1152] inb_S2x8x2304_S1x8x128_1_0_1152 1 k.val 1152 (k0_off34_eq k) (k0_off32_eq k) rfl x, ?_⟩
    refine List.forall_mem_cons.2 ⟨fun x => piece_t arg4 arg12 X4 X12 (k0_off33 k) (k0_off33_inb k) (k0_off32 k) (k0_off32_inb k) ![0, 0, 1152] inb_S2x8x2304_S1x8x128_0_0_1152 0 k.val 1152 (k0_off33_eq k) (k0_off32_eq k) rfl x, ?_⟩
    refine List.forall_mem_cons.2 ⟨fun x => piece_t arg4 arg12 X4 X12 (k0_off31 k) (k0_off31_inb k) (k0_off29 k) (k0_off29_inb k) ![1, 0, 1024] inb_S2x8x2304_S1x8x128_1_0_1024 1 k.val 1024 (k0_off31_eq k) (k0_off29_eq k) rfl x, ?_⟩
    refine List.forall_mem_cons.2 ⟨fun x => piece_t arg4 arg12 X4 X12 (k0_off30 k) (k0_off30_inb k) (k0_off29 k) (k0_off29_inb k) ![0, 0, 1024] inb_S2x8x2304_S1x8x128_0_0_1024 0 k.val 1024 (k0_off30_eq k) (k0_off29_eq k) rfl x, ?_⟩
    refine List.forall_mem_cons.2 ⟨fun x => piece_t arg4 arg12 X4 X12 (k0_off28 k) (k0_off28_inb k) (k0_off26 k) (k0_off26_inb k) ![1, 0, 896] inb_S2x8x2304_S1x8x128_1_0_896 1 k.val 896 (k0_off28_eq k) (k0_off26_eq k) rfl x, ?_⟩
    refine List.forall_mem_cons.2 ⟨fun x => piece_t arg4 arg12 X4 X12 (k0_off27 k) (k0_off27_inb k) (k0_off26 k) (k0_off26_inb k) ![0, 0, 896] inb_S2x8x2304_S1x8x128_0_0_896 0 k.val 896 (k0_off27_eq k) (k0_off26_eq k) rfl x, ?_⟩
    refine List.forall_mem_cons.2 ⟨fun x => piece_t arg4 arg12 X4 X12 (k0_off25 k) (k0_off25_inb k) (k0_off23 k) (k0_off23_inb k) ![1, 0, 768] inb_S2x8x2304_S1x8x128_1_0_768 1 k.val 768 (k0_off25_eq k) (k0_off23_eq k) rfl x, ?_⟩
    refine List.forall_mem_cons.2 ⟨fun x => piece_t arg4 arg12 X4 X12 (k0_off24 k) (k0_off24_inb k) (k0_off23 k) (k0_off23_inb k) ![0, 0, 768] inb_S2x8x2304_S1x8x128_0_0_768 0 k.val 768 (k0_off24_eq k) (k0_off23_eq k) rfl x, ?_⟩
    refine List.forall_mem_cons.2 ⟨fun x => piece_t arg4 arg12 X4 X12 (k0_off22 k) (k0_off22_inb k) (k0_off20 k) (k0_off20_inb k) ![1, 0, 640] inb_S2x8x2304_S1x8x128_1_0_640 1 k.val 640 (k0_off22_eq k) (k0_off20_eq k) rfl x, ?_⟩
    refine List.forall_mem_cons.2 ⟨fun x => piece_t arg4 arg12 X4 X12 (k0_off21 k) (k0_off21_inb k) (k0_off20 k) (k0_off20_inb k) ![0, 0, 640] inb_S2x8x2304_S1x8x128_0_0_640 0 k.val 640 (k0_off21_eq k) (k0_off20_eq k) rfl x, ?_⟩
    refine List.forall_mem_cons.2 ⟨fun x => piece_t arg4 arg12 X4 X12 (k0_off19 k) (k0_off19_inb k) (k0_off17 k) (k0_off17_inb k) ![1, 0, 512] inb_S2x8x2304_S1x8x128_1_0_512 1 k.val 512 (k0_off19_eq k) (k0_off17_eq k) rfl x, ?_⟩
    refine List.forall_mem_cons.2 ⟨fun x => piece_t arg4 arg12 X4 X12 (k0_off18 k) (k0_off18_inb k) (k0_off17 k) (k0_off17_inb k) ![0, 0, 512] inb_S2x8x2304_S1x8x128_0_0_512 0 k.val 512 (k0_off18_eq k) (k0_off17_eq k) rfl x, ?_⟩
    refine List.forall_mem_cons.2 ⟨fun x => piece_t arg4 arg12 X4 X12 (k0_off16 k) (k0_off16_inb k) (k0_off14 k) (k0_off14_inb k) ![1, 0, 384] inb_S2x8x2304_S1x8x128_1_0_384 1 k.val 384 (k0_off16_eq k) (k0_off14_eq k) rfl x, ?_⟩
    refine List.forall_mem_cons.2 ⟨fun x => piece_t arg4 arg12 X4 X12 (k0_off15 k) (k0_off15_inb k) (k0_off14 k) (k0_off14_inb k) ![0, 0, 384] inb_S2x8x2304_S1x8x128_0_0_384 0 k.val 384 (k0_off15_eq k) (k0_off14_eq k) rfl x, ?_⟩
    refine List.forall_mem_cons.2 ⟨fun x => piece_t arg4 arg12 X4 X12 (k0_off13 k) (k0_off13_inb k) (k0_off11 k) (k0_off11_inb k) ![1, 0, 256] inb_S2x8x2304_S1x8x128_1_0_256 1 k.val 256 (k0_off13_eq k) (k0_off11_eq k) rfl x, ?_⟩
    refine List.forall_mem_cons.2 ⟨fun x => piece_t arg4 arg12 X4 X12 (k0_off12 k) (k0_off12_inb k) (k0_off11 k) (k0_off11_inb k) ![0, 0, 256] inb_S2x8x2304_S1x8x128_0_0_256 0 k.val 256 (k0_off12_eq k) (k0_off11_eq k) rfl x, ?_⟩
    refine List.forall_mem_cons.2 ⟨fun x => piece_t arg4 arg12 X4 X12 (k0_off10 k) (k0_off10_inb k) (k0_off8 k) (k0_off8_inb k) ![1, 0, 128] inb_S2x8x2304_S1x8x128_1_0_128 1 k.val 128 (k0_off10_eq k) (k0_off8_eq k) rfl x, ?_⟩
    refine List.forall_mem_cons.2 ⟨fun x => piece_t arg4 arg12 X4 X12 (k0_off9 k) (k0_off9_inb k) (k0_off8 k) (k0_off8_inb k) ![0, 0, 128] inb_S2x8x2304_S1x8x128_0_0_128 0 k.val 128 (k0_off9_eq k) (k0_off8_eq k) rfl x, ?_⟩
    refine List.forall_mem_cons.2 ⟨fun x => piece_t arg4 arg12 X4 X12 (k0_off7 k) (k0_off7_inb k) (k0_off5 k) (k0_off5_inb k) ![1, 0, 0] inb_S2x8x2304_S1x8x128_1_0_0 1 k.val 0 (k0_off7_eq k) (k0_off5_eq k) rfl x, ?_⟩
    refine List.forall_mem_cons.2 ⟨fun x => piece_t arg4 arg12 X4 X12 (k0_off6 k) (k0_off6_inb k) (k0_off5 k) (k0_off5_inb k) ![0, 0, 0] inb_S2x8x2304_S1x8x128_0_0_0 0 k.val 0 (k0_off6_eq k) (k0_off5_eq k) rfl x, ?_⟩
    exact fun p hp => absurd hp List.not_mem_nil
  · rintro y ⟨h1, h2⟩
    idx_vars y
    have h1 : 32 * k.val ≤ y1.val := h1
    have h2 : y1.val < 32 * k.val + 32 := h2
    obtain ⟨q, hq⟩ : ∃ q : Fin 18, 128 * q.val ≤ y2.val ∧ y2.val < 128 * q.val + 128 :=
      ⟨⟨y2.val / 128, by omega⟩, by dsimp only; omega, by dsimp only; omega⟩
    fin_cases q <;> fin_cases y0
    · exact ⟨_, List.mem_of_getElem? (i := 35) rfl, mem_of _ (k0_off6_inb k) 0 k.val 0 (k0_off6_eq k) _ _ _ (by decide) h1 h2 (by simpa using hq.1) (by simpa using hq.2)⟩
    · exact ⟨_, List.mem_of_getElem? (i := 34) rfl, mem_of _ (k0_off7_inb k) 1 k.val 0 (k0_off7_eq k) _ _ _ (by decide) h1 h2 (by simpa using hq.1) (by simpa using hq.2)⟩
    · exact ⟨_, List.mem_of_getElem? (i := 33) rfl, mem_of _ (k0_off9_inb k) 0 k.val 128 (k0_off9_eq k) _ _ _ (by decide) h1 h2 (by simpa using hq.1) (by simpa using hq.2)⟩
    · exact ⟨_, List.mem_of_getElem? (i := 32) rfl, mem_of _ (k0_off10_inb k) 1 k.val 128 (k0_off10_eq k) _ _ _ (by decide) h1 h2 (by simpa using hq.1) (by simpa using hq.2)⟩
    · exact ⟨_, List.mem_of_getElem? (i := 31) rfl, mem_of _ (k0_off12_inb k) 0 k.val 256 (k0_off12_eq k) _ _ _ (by decide) h1 h2 (by simpa using hq.1) (by simpa using hq.2)⟩
    · exact ⟨_, List.mem_of_getElem? (i := 30) rfl, mem_of _ (k0_off13_inb k) 1 k.val 256 (k0_off13_eq k) _ _ _ (by decide) h1 h2 (by simpa using hq.1) (by simpa using hq.2)⟩
    · exact ⟨_, List.mem_of_getElem? (i := 29) rfl, mem_of _ (k0_off15_inb k) 0 k.val 384 (k0_off15_eq k) _ _ _ (by decide) h1 h2 (by simpa using hq.1) (by simpa using hq.2)⟩
    · exact ⟨_, List.mem_of_getElem? (i := 28) rfl, mem_of _ (k0_off16_inb k) 1 k.val 384 (k0_off16_eq k) _ _ _ (by decide) h1 h2 (by simpa using hq.1) (by simpa using hq.2)⟩
    · exact ⟨_, List.mem_of_getElem? (i := 27) rfl, mem_of _ (k0_off18_inb k) 0 k.val 512 (k0_off18_eq k) _ _ _ (by decide) h1 h2 (by simpa using hq.1) (by simpa using hq.2)⟩
    · exact ⟨_, List.mem_of_getElem? (i := 26) rfl, mem_of _ (k0_off19_inb k) 1 k.val 512 (k0_off19_eq k) _ _ _ (by decide) h1 h2 (by simpa using hq.1) (by simpa using hq.2)⟩
    · exact ⟨_, List.mem_of_getElem? (i := 25) rfl, mem_of _ (k0_off21_inb k) 0 k.val 640 (k0_off21_eq k) _ _ _ (by decide) h1 h2 (by simpa using hq.1) (by simpa using hq.2)⟩
    · exact ⟨_, List.mem_of_getElem? (i := 24) rfl, mem_of _ (k0_off22_inb k) 1 k.val 640 (k0_off22_eq k) _ _ _ (by decide) h1 h2 (by simpa using hq.1) (by simpa using hq.2)⟩
    · exact ⟨_, List.mem_of_getElem? (i := 23) rfl, mem_of _ (k0_off24_inb k) 0 k.val 768 (k0_off24_eq k) _ _ _ (by decide) h1 h2 (by simpa using hq.1) (by simpa using hq.2)⟩
    · exact ⟨_, List.mem_of_getElem? (i := 22) rfl, mem_of _ (k0_off25_inb k) 1 k.val 768 (k0_off25_eq k) _ _ _ (by decide) h1 h2 (by simpa using hq.1) (by simpa using hq.2)⟩
    · exact ⟨_, List.mem_of_getElem? (i := 21) rfl, mem_of _ (k0_off27_inb k) 0 k.val 896 (k0_off27_eq k) _ _ _ (by decide) h1 h2 (by simpa using hq.1) (by simpa using hq.2)⟩
    · exact ⟨_, List.mem_of_getElem? (i := 20) rfl, mem_of _ (k0_off28_inb k) 1 k.val 896 (k0_off28_eq k) _ _ _ (by decide) h1 h2 (by simpa using hq.1) (by simpa using hq.2)⟩
    · exact ⟨_, List.mem_of_getElem? (i := 19) rfl, mem_of _ (k0_off30_inb k) 0 k.val 1024 (k0_off30_eq k) _ _ _ (by decide) h1 h2 (by simpa using hq.1) (by simpa using hq.2)⟩
    · exact ⟨_, List.mem_of_getElem? (i := 18) rfl, mem_of _ (k0_off31_inb k) 1 k.val 1024 (k0_off31_eq k) _ _ _ (by decide) h1 h2 (by simpa using hq.1) (by simpa using hq.2)⟩
    · exact ⟨_, List.mem_of_getElem? (i := 17) rfl, mem_of _ (k0_off33_inb k) 0 k.val 1152 (k0_off33_eq k) _ _ _ (by decide) h1 h2 (by simpa using hq.1) (by simpa using hq.2)⟩
    · exact ⟨_, List.mem_of_getElem? (i := 16) rfl, mem_of _ (k0_off34_inb k) 1 k.val 1152 (k0_off34_eq k) _ _ _ (by decide) h1 h2 (by simpa using hq.1) (by simpa using hq.2)⟩
    · exact ⟨_, List.mem_of_getElem? (i := 15) rfl, mem_of _ (k0_off36_inb k) 0 k.val 1280 (k0_off36_eq k) _ _ _ (by decide) h1 h2 (by simpa using hq.1) (by simpa using hq.2)⟩
    · exact ⟨_, List.mem_of_getElem? (i := 14) rfl, mem_of _ (k0_off37_inb k) 1 k.val 1280 (k0_off37_eq k) _ _ _ (by decide) h1 h2 (by simpa using hq.1) (by simpa using hq.2)⟩
    · exact ⟨_, List.mem_of_getElem? (i := 13) rfl, mem_of _ (k0_off39_inb k) 0 k.val 1408 (k0_off39_eq k) _ _ _ (by decide) h1 h2 (by simpa using hq.1) (by simpa using hq.2)⟩
    · exact ⟨_, List.mem_of_getElem? (i := 12) rfl, mem_of _ (k0_off40_inb k) 1 k.val 1408 (k0_off40_eq k) _ _ _ (by decide) h1 h2 (by simpa using hq.1) (by simpa using hq.2)⟩
    · exact ⟨_, List.mem_of_getElem? (i := 11) rfl, mem_of _ (k0_off42_inb k) 0 k.val 1536 (k0_off42_eq k) _ _ _ (by decide) h1 h2 (by simpa using hq.1) (by simpa using hq.2)⟩
    · exact ⟨_, List.mem_of_getElem? (i := 10) rfl, mem_of _ (k0_off43_inb k) 1 k.val 1536 (k0_off43_eq k) _ _ _ (by decide) h1 h2 (by simpa using hq.1) (by simpa using hq.2)⟩
    · exact ⟨_, List.mem_of_getElem? (i := 9) rfl, mem_of _ (k0_off45_inb k) 0 k.val 1664 (k0_off45_eq k) _ _ _ (by decide) h1 h2 (by simpa using hq.1) (by simpa using hq.2)⟩
    · exact ⟨_, List.mem_of_getElem? (i := 8) rfl, mem_of _ (k0_off46_inb k) 1 k.val 1664 (k0_off46_eq k) _ _ _ (by decide) h1 h2 (by simpa using hq.1) (by simpa using hq.2)⟩
    · exact ⟨_, List.mem_of_getElem? (i := 7) rfl, mem_of _ (k0_off48_inb k) 0 k.val 1792 (k0_off48_eq k) _ _ _ (by decide) h1 h2 (by simpa using hq.1) (by simpa using hq.2)⟩
    · exact ⟨_, List.mem_of_getElem? (i := 6) rfl, mem_of _ (k0_off49_inb k) 1 k.val 1792 (k0_off49_eq k) _ _ _ (by decide) h1 h2 (by simpa using hq.1) (by simpa using hq.2)⟩
    · exact ⟨_, List.mem_of_getElem? (i := 5) rfl, mem_of _ (k0_off51_inb k) 0 k.val 1920 (k0_off51_eq k) _ _ _ (by decide) h1 h2 (by simpa using hq.1) (by simpa using hq.2)⟩
    · exact ⟨_, List.mem_of_getElem? (i := 4) rfl, mem_of _ (k0_off52_inb k) 1 k.val 1920 (k0_off52_eq k) _ _ _ (by decide) h1 h2 (by simpa using hq.1) (by simpa using hq.2)⟩
    · exact ⟨_, List.mem_of_getElem? (i := 3) rfl, mem_of _ (k0_off54_inb k) 0 k.val 2048 (k0_off54_eq k) _ _ _ (by decide) h1 h2 (by simpa using hq.1) (by simpa using hq.2)⟩
    · exact ⟨_, List.mem_of_getElem? (i := 2) rfl, mem_of _ (k0_off55_inb k) 1 k.val 2048 (k0_off55_eq k) _ _ _ (by decide) h1 h2 (by simpa using hq.1) (by simpa using hq.2)⟩
    · exact ⟨_, List.mem_of_getElem? (i := 1) rfl, mem_of _ (k0_off57_inb k) 0 k.val 2176 (k0_off57_eq k) _ _ _ (by decide) h1 h2 (by simpa using hq.1) (by simpa using hq.2)⟩
    · exact ⟨_, List.mem_of_getElem? (i := 0) rfl, mem_of _ (k0_off58_inb k) 1 k.val 2176 (k0_off58_eq k) _ _ _ (by decide) h1 h2 (by simpa using hq.1) (by simpa using hq.2)⟩

theorem trip3_pm (k : Fin k0_t3_loop.trips) : Good (fun y => 32 * k.val ≤ (y 1).val ∧ (y 1).val < 32 * k.val + 32) (Gpm (arg4.view.read (Elt Ideal) X4) (arg12.view.read (Elt Ideal) X12)) (trip_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 k).2.1 := by
  unfold trip_k0_t3
  dsimp only
  refine ⟨?_, ?_⟩
  · refine List.forall_mem_cons.2 ⟨fun x => piece_pm arg4 arg12 X4 X12 (k0_off60 k) (k0_off60_inb k) ![k0_off5 k, k0_off8 k, k0_off11 k, k0_off14 k, k0_off17 k, k0_off20 k, k0_off23 k, k0_off26 k, k0_off29 k, k0_off32 k, k0_off35 k, k0_off38 k, k0_off41 k, k0_off44 k, k0_off47 k, k0_off50 k, k0_off53 k, k0_off56 k] (offW_inb k) ![![1, 0, 0], ![1, 0, 128], ![1, 0, 256], ![1, 0, 384], ![1, 0, 512], ![1, 0, 640], ![1, 0, 768], ![1, 0, 896], ![1, 0, 1024], ![1, 0, 1152], ![1, 0, 1280], ![1, 0, 1408], ![1, 0, 1536], ![1, 0, 1664], ![1, 0, 1792], ![1, 0, 1920], ![1, 0, 2048], ![1, 0, 2176]] offM1_inb 1 k.val (k0_off60_eq k) (offW_eq k) (by decide) x, ?_⟩
    refine List.forall_mem_cons.2 ⟨fun x => piece_pm arg4 arg12 X4 X12 (k0_off59 k) (k0_off59_inb k) ![k0_off5 k, k0_off8 k, k0_off11 k, k0_off14 k, k0_off17 k, k0_off20 k, k0_off23 k, k0_off26 k, k0_off29 k, k0_off32 k, k0_off35 k, k0_off38 k, k0_off41 k, k0_off44 k, k0_off47 k, k0_off50 k, k0_off53 k, k0_off56 k] (offW_inb k) ![![0, 0, 0], ![0, 0, 128], ![0, 0, 256], ![0, 0, 384], ![0, 0, 512], ![0, 0, 640], ![0, 0, 768], ![0, 0, 896], ![0, 0, 1024], ![0, 0, 1152], ![0, 0, 1280], ![0, 0, 1408], ![0, 0, 1536], ![0, 0, 1664], ![0, 0, 1792], ![0, 0, 1920], ![0, 0, 2048], ![0, 0, 2176]] offM0_inb 0 k.val (k0_off59_eq k) (offW_eq k) (by decide) x, ?_⟩
    exact fun p hp => absurd hp List.not_mem_nil
  · rintro y ⟨h1, h2⟩
    idx_vars y
    have h1 : 32 * k.val ≤ y1.val := h1
    have h2 : y1.val < 32 * k.val + 32 := h2
    fin_cases y0
    · exact ⟨_, List.mem_of_getElem? (i := 1) rfl, mem_of _ (k0_off59_inb k) 0 k.val 0 (k0_off59_eq k) _ _ _ (by decide) h1 h2 (Nat.zero_le _) (by omega)⟩
    · exact ⟨_, List.mem_of_getElem? (i := 0) rfl, mem_of _ (k0_off60_inb k) 1 k.val 0 (k0_off60_eq k) _ _ _ (by decide) h1 h2 (Nat.zero_le _) (by omega)⟩

theorem pb3 (n : ℕ) (hn : n ≤ 8) : Good (fun y => (y 1).val < 32 * n) (Gt (arg4.view.read (Elt Ideal) X4) (arg12.view.read (Elt Ideal) X12)) (pb_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 n).1
    ∧ Good (fun y => (y 1).val < 32 * n) (Gpm (arg4.view.read (Elt Ideal) X4) (arg12.view.read (Elt Ideal) X12)) (pb_k0_t3 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 n).2 := by
  induction n with
  | zero => exact ⟨Good.nil fun y h => absurd h (Nat.not_lt_zero _), Good.nil fun y h => absurd h (Nat.not_lt_zero _)⟩
  | succ n ih =>
    have e := pb_k0_t3_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 ⟨n, (by show n < 8; omega)⟩
    have ih := ih (by omega)
    rw [e]
    exact ⟨Good.append (trip3_t c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 ⟨n, _⟩) ih.1 (fun y hy => by dsimp only at hy ⊢; omega),
      Good.append (trip3_pm c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 ⟨n, _⟩) ih.2 (fun y hy => by dsimp only at hy ⊢; omega)⟩

end

end Cert.KernelIdeal.Val

end
-- ==== Proof.VLoop4.lean ====
/- The requantising loop of the kernel: what it stores, in closed form, on the extended reals. -/
module

public import proofs.«01_k».proof.Proof.VLoop3
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

/-- The saturation to the largest finite value of the 8-bit format. -/
def clip (v : EReal) : EReal :=
  min (Ideal.ofBits .f32 0x43E00000#32) (max (Ideal.ofBits .f32 0xC3E00000#32) v)

/-- The codes: the modulated weight times its row's factor, saturated. -/
def Gq (T : S2x256x2304.Idx → EReal) (g : S2x256x128.Idx → EReal) : S2x256x2304.Idx → EReal :=
  fun j => clip (T j * g (ix3 (j 0) (j 1) ⟨(j 2).val % 128, Nat.mod_lt _ (by decide)⟩))

theorem pay171_apply (g t : Vec Ideal S1x32x128 .f32) (z : Fin 1) (r : Fin 32) (l : Fin 128) :
    k0_pay171 (F := Ideal) g t (ix3 z r l) = clip (t (ix3 z r l) * g (ix3 z r l)) := by
  pointwise [k0_pay171, k0_pay169]
  have hz : z = 0 := Subsingleton.elim _ _
  subst hz
  rfl

theorem piece_q (arg15 : Memref sig .tc .vmem S2x256x2304 .f32) (arg17 : Memref sig .tc .vmem S2x256x128 .f32)
    (X15 : BufTy.Contents (Elt Ideal) arg15.view.ty) (X17 : BufTy.Contents (Elt Ideal) arg17.view.ty)
    (off : Fin 3 → ℕ) (h : ∀ a, off a + S1x32x128.size a ≤ S2x256x2304.size a) (offG : Fin 3 → ℕ) (hg : ∀ a, offG a + S1x32x128.size a ≤ S2x256x128.size a) (b k c : ℕ) (hc : c % 128 = 0)
    (e : off = ![b, 32 * k, c]) (eG : offG = ![b, 32 * k, 0])
    (x : S1x32x128.Idx) :
    k0_pay171 (F := Ideal) (View.readAt (Elt Ideal) arg17.view (Rect.unit (s := S2x256x128) offG S1x32x128.size hg).toLoadRect X17)
      (View.readAt (Elt Ideal) arg15.view (Rect.unit (s := S2x256x2304) off S1x32x128.size h).toLoadRect X15) x
      = Gq (arg15.view.read (Elt Ideal) X15) (arg17.view.read (Elt Ideal) X17) ((Rect.unit (s := S2x256x2304) off S1x32x128.size h).emb x) := by
  subst e eG
  idx_vars x
  refine (pay171_apply _ _ _ _ _).trans ?_
  simp only [View.readAt_apply]
  unfold Gq
  refine congrArg clip (congrArg₂ (· * ·) rfl (congrArg _ ?_))
  funext a; apply Fin.ext; fin_cases a <;> simp [Rect.unit, Rect.emb, LoadRect.idx]
  omega

section
variable (c : Dev nD) (bd : Option Variants.none.V) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (v5 v109 v112 : FVec Ideal S1x256 .f32) (v162 v164 : IVec S1x256 32) (v167 : FVec Ideal S1x256 .f32) (X15 : BufTy.Contents (Elt Ideal) arg15.view.ty) (X17 : BufTy.Contents (Elt Ideal) arg17.view.ty)

theorem trip4_q (k : Fin k0_t4_loop.trips) : Good (fun y => 32 * k.val ≤ (y 1).val ∧ (y 1).val < 32 * k.val + 32) (Gq (arg15.view.read (Elt Ideal) X15) (arg17.view.read (Elt Ideal) X17)) (trip_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v109 v112 v162 v164 v167 X15 X17 k).1 := by
  unfold trip_k0_t4
  dsimp only
  refine ⟨?_, ?_⟩
  · refine List.forall_mem_cons.2 ⟨fun x => piece_q arg15 arg17 X15 X17 (k0_off98 k) (k0_off98_inb k) (k0_off80 k) (k0_off80_inb k) 1 k.val 2176 (by decide) (k0_off98_eq k) (k0_off80_eq k) x, ?_⟩
    refine List.forall_mem_cons.2 ⟨fun x => piece_q arg15 arg17 X15 X17 (k0_off97 k) (k0_off97_inb k) (k0_off80 k) (k0_off80_inb k) 1 k.val 2048 (by decide) (k0_off97_eq k) (k0_off80_eq k) x, ?_⟩
    refine List.forall_mem_cons.2 ⟨fun x => piece_q arg15 arg17 X15 X17 (k0_off96 k) (k0_off96_inb k) (k0_off80 k) (k0_off80_inb k) 1 k.val 1920 (by decide) (k0_off96_eq k) (k0_off80_eq k) x, ?_⟩
    refine List.forall_mem_cons.2 ⟨fun x => piece_q arg15 arg17 X15 X17 (k0_off95 k) (k0_off95_inb k) (k0_off80 k) (k0_off80_inb k) 1 k.val 1792 (by decide) (k0_off95_eq k) (k0_off80_eq k) x, ?_⟩
    refine List.forall_mem_cons.2 ⟨fun x => piece_q arg15 arg17 X15 X17 (k0_off94 k) (k0_off94_inb k) (k0_off80 k) (k0_off80_inb k) 1 k.val 1664 (by decide) (k0_off94_eq k) (k0_off80_eq k) x, ?_⟩
    refine List.forall_mem_cons.2 ⟨fun x => piece_q arg15 arg17 X15 X17 (k0_off93 k) (k0_off93_inb k) (k0_off80 k) (k0_off80_inb k) 1 k.val 1536 (by decide) (k0_off93_eq k) (k0_off80_eq k) x, ?_⟩
    refine List.forall_mem_cons.2 ⟨fun x => piece_q arg15 arg17 X15 X17 (k0_off92 k) (k0_off92_inb k) (k0_off80 k) (k0_off80_inb k) 1 k.val 1408 (by decide) (k0_off92_eq k) (k0_off80_eq k) x, ?_⟩
    refine List.forall_mem_cons.2 ⟨fun x => piece_q arg15 arg17 X15 X17 (k0_off91 k) (k0_off91_inb k) (k0_off80 k) (k0_off80_inb k) 1 k.val 1280 (by decide) (k0_off91_eq k) (k0_off80_eq k) x, ?_⟩
    refine List.forall_mem_cons.2 ⟨fun x => piece_q arg15 arg17 X15 X17 (k0_off90 k) (k0_off90_inb k) (k0_off80 k) (k0_off80_inb k) 1 k.val 1152 (by decide) (k0_off90_eq k) (k0_off80_eq k) x, ?_⟩
    refine List.forall_mem_cons.2 ⟨fun x => piece_q arg15 arg17 X15 X17 (k0_off89 k) (k0_off89_inb k) (k0_off80 k) (k0_off80_inb k) 1 k.val 1024 (by decide) (k0_off89_eq k) (k0_off80_eq k) x, ?_⟩
    refine List.forall_mem_cons.2 ⟨fun x => piece_q arg15 arg17 X15 X17 (k0_off88 k) (k0_off88_inb k) (k0_off80 k) (k0_off80_inb k) 1 k.val 896 (by decide) (k0_off88_eq k) (k0_off80_eq k) x, ?_⟩
    refine List.forall_mem_cons.2 ⟨fun x => piece_q arg15 arg17 X15 X17 (k0_off87 k) (k0_off87_inb k) (k0_off80 k) (k0_off80_inb k) 1 k.val 768 (by decide) (k0_off87_eq k) (k0_off80_eq k) x, ?_⟩
    refine List.forall_mem_cons.2 ⟨fun x => piece_q arg15 arg17 X15 X17 (k0_off86 k) (k0_off86_inb k) (k0_off80 k) (k0_off80_inb k) 1 k.val 640 (by decide) (k0_off86_eq k) (k0_off80_eq k) x, ?_⟩
    refine List.forall_mem_cons.2 ⟨fun x => piece_q arg15 arg17 X15 X17 (k0_off85 k) (k0_off85_inb k) (k0_off80 k) (k0_off80_inb k) 1 k.val 512 (by decide) (k0_off85_eq k) (k0_off80_eq k) x, ?_⟩
    refine List.forall_mem_cons.2 ⟨fun x => piece_q arg15 arg17 X15 X17 (k0_off84 k) (k0_off84_inb k) (k0_off80 k) (k0_off80_inb k) 1 k.val 384 (by decide) (k0_off84_eq k) (k0_off80_eq k) x, ?_⟩
    refine List.forall_mem_cons.2 ⟨fun x => piece_q arg15 arg17 X15 X17 (k0_off83 k) (k0_off83_inb k) (k0_off80 k) (k0_off80_inb k) 1 k.val 256 (by decide) (k0_off83_eq k) (k0_off80_eq k) x, ?_⟩
    refine List.forall_mem_cons.2 ⟨fun x => piece_q arg15 arg17 X15 X17 (k0_off82 k) (k0_off82_inb k) (k0_off80 k) (k0_off80_inb k) 1 k.val 128 (by decide) (k0_off82_eq k) (k0_off80_eq k) x, ?_⟩
    refine List.forall_mem_cons.2 ⟨fun x => piece_q arg15 arg17 X15 X17 (k0_off81 k) (k0_off81_inb k) (k0_off80 k) (k0_off80_inb k) 1 k.val 0 (by decide) (k0_off81_eq k) (k0_off80_eq k) x, ?_⟩
    refine List.forall_mem_cons.2 ⟨fun x => piece_q arg15 arg17 X15 X17 (k0_off79 k) (k0_off79_inb k) (k0_off61 k) (k0_off61_inb k) 0 k.val 2176 (by decide) (k0_off79_eq k) (k0_off61_eq k) x, ?_⟩
    refine List.forall_mem_cons.2 ⟨fun x => piece_q arg15 arg17 X15 X17 (k0_off78 k) (k0_off78_inb k) (k0_off61 k) (k0_off61_inb k) 0 k.val 2048 (by decide) (k0_off78_eq k) (k0_off61_eq k) x, ?_⟩
    refine List.forall_mem_cons.2 ⟨fun x => piece_q arg15 arg17 X15 X17 (k0_off77 k) (k0_off77_inb k) (k0_off61 k) (k0_off61_inb k) 0 k.val 1920 (by decide) (k0_off77_eq k) (k0_off61_eq k) x, ?_⟩
    refine List.forall_mem_cons.2 ⟨fun x => piece_q arg15 arg17 X15 X17 (k0_off76 k) (k0_off76_inb k) (k0_off61 k) (k0_off61_inb k) 0 k.val 1792 (by decide) (k0_off76_eq k) (k0_off61_eq k) x, ?_⟩
    refine List.forall_mem_cons.2 ⟨fun x => piece_q arg15 arg17 X15 X17 (k0_off75 k) (k0_off75_inb k) (k0_off61 k) (k0_off61_inb k) 0 k.val 1664 (by decide) (k0_off75_eq k) (k0_off61_eq k) x, ?_⟩
    refine List.forall_mem_cons.2 ⟨fun x => piece_q arg15 arg17 X15 X17 (k0_off74 k) (k0_off74_inb k) (k0_off61 k) (k0_off61_inb k) 0 k.val 1536 (by decide) (k0_off74_eq k) (k0_off61_eq k) x, ?_⟩
    refine List.forall_mem_cons.2 ⟨fun x => piece_q arg15 arg17 X15 X17 (k0_off73 k) (k0_off73_inb k) (k0_off61 k) (k0_off61_inb k) 0 k.val 1408 (by decide) (k0_off73_eq k) (k0_off61_eq k) x, ?_⟩
    refine List.forall_mem_cons.2 ⟨fun x => piece_q arg15 arg17 X15 X17 (k0_off72 k) (k0_off72_inb k) (k0_off61 k) (k0_off61_inb k) 0 k.val 1280 (by decide) (k0_off72_eq k) (k0_off61_eq k) x, ?_⟩
    refine List.forall_mem_cons.2 ⟨fun x => piece_q arg15 arg17 X15 X17 (k0_off71 k) (k0_off71_inb k) (k0_off61 k) (k0_off61_inb k) 0 k.val 1152 (by decide) (k0_off71_eq k) (k0_off61_eq k) x, ?_⟩
    refine List.forall_mem_cons.2 ⟨fun x => piece_q arg15 arg17 X15 X17 (k0_off70 k) (k0_off70_inb k) (k0_off61 k) (k0_off61_inb k) 0 k.val 1024 (by decide) (k0_off70_eq k) (k0_off61_eq k) x, ?_⟩
    refine List.forall_mem_cons.2 ⟨fun x => piece_q arg15 arg17 X15 X17 (k0_off69 k) (k0_off69_inb k) (k0_off61 k) (k0_off61_inb k) 0 k.val 896 (by decide) (k0_off69_eq k) (k0_off61_eq k) x, ?_⟩
    refine List.forall_mem_cons.2 ⟨fun x => piece_q arg15 arg17 X15 X17 (k0_off68 k) (k0_off68_inb k) (k0_off61 k) (k0_off61_inb k) 0 k.val 768 (by decide) (k0_off68_eq k) (k0_off61_eq k) x, ?_⟩
    refine List.forall_mem_cons.2 ⟨fun x => piece_q arg15 arg17 X15 X17 (k0_off67 k) (k0_off67_inb k) (k0_off61 k) (k0_off61_inb k) 0 k.val 640 (by decide) (k0_off67_eq k) (k0_off61_eq k) x, ?_⟩
    refine List.forall_mem_cons.2 ⟨fun x => piece_q arg15 arg17 X15 X17 (k0_off66 k) (k0_off66_inb k) (k0_off61 k) (k0_off61_inb k) 0 k.val 512 (by decide) (k0_off66_eq k) (k0_off61_eq k) x, ?_⟩
    refine List.forall_mem_cons.2 ⟨fun x => piece_q arg15 arg17 X15 X17 (k0_off65 k) (k0_off65_inb k) (k0_off61 k) (k0_off61_inb k) 0 k.val 384 (by decide) (k0_off65_eq k) (k0_off61_eq k) x, ?_⟩
    refine List.forall_mem_cons.2 ⟨fun x => piece_q arg15 arg17 X15 X17 (k0_off64 k) (k0_off64_inb k) (k0_off61 k) (k0_off61_inb k) 0 k.val 256 (by decide) (k0_off64_eq k) (k0_off61_eq k) x, ?_⟩
    refine List.forall_mem_cons.2 ⟨fun x => piece_q arg15 arg17 X15 X17 (k0_off63 k) (k0_off63_inb k) (k0_off61 k) (k0_off61_inb k) 0 k.val 128 (by decide) (k0_off63_eq k) (k0_off61_eq k) x, ?_⟩
    refine List.forall_mem_cons.2 ⟨fun x => piece_q arg15 arg17 X15 X17 (k0_off62 k) (k0_off62_inb k) (k0_off61 k) (k0_off61_inb k) 0 k.val 0 (by decide) (k0_off62_eq k) (k0_off61_eq k) x, ?_⟩
    exact fun p hp => absurd hp List.not_mem_nil
  · rintro y ⟨h1, h2⟩
    idx_vars y
    have h1 : 32 * k.val ≤ y1.val := h1
    have h2 : y1.val < 32 * k.val + 32 := h2
    obtain ⟨q, hq⟩ : ∃ q : Fin 18, 128 * q.val ≤ y2.val ∧ y2.val < 128 * q.val + 128 :=
      ⟨⟨y2.val / 128, by omega⟩, by dsimp only; omega, by dsimp only; omega⟩
    fin_cases q <;> fin_cases y0
    · exact ⟨_, List.mem_of_getElem? (i := 35) rfl, mem_of _ (k0_off62_inb k) 0 k.val 0 (k0_off62_eq k) _ _ _ (by decide) h1 h2 (by simpa using hq.1) (by simpa using hq.2)⟩
    · exact ⟨_, List.mem_of_getElem? (i := 17) rfl, mem_of _ (k0_off81_inb k) 1 k.val 0 (k0_off81_eq k) _ _ _ (by decide) h1 h2 (by simpa using hq.1) (by simpa using hq.2)⟩
    · exact ⟨_, List.mem_of_getElem? (i := 34) rfl, mem_of _ (k0_off63_inb k) 0 k.val 128 (k0_off63_eq k) _ _ _ (by decide) h1 h2 (by simpa using hq.1) (by simpa using hq.2)⟩
    · exact ⟨_, List.mem_of_getElem? (i := 16) rfl, mem_of _ (k0_off82_inb k) 1 k.val 128 (k0_off82_eq k) _ _ _ (by decide) h1 h2 (by simpa using hq.1) (by simpa using hq.2)⟩
    · exact ⟨_, List.mem_of_getElem? (i := 33) rfl, mem_of _ (k0_off64_inb k) 0 k.val 256 (k0_off64_eq k) _ _ _ (by decide) h1 h2 (by simpa using hq.1) (by simpa using hq.2)⟩
    · exact ⟨_, List.mem_of_getElem? (i := 15) rfl, mem_of _ (k0_off83_inb k) 1 k.val 256 (k0_off83_eq k) _ _ _ (by decide) h1 h2 (by simpa using hq.1) (by simpa using hq.2)⟩
    · exact ⟨_, List.mem_of_getElem? (i := 32) rfl, mem_of _ (k0_off65_inb k) 0 k.val 384 (k0_off65_eq k) _ _ _ (by decide) h1 h2 (by simpa using hq.1) (by simpa using hq.2)⟩
    · exact ⟨_, List.mem_of_getElem? (i := 14) rfl, mem_of _ (k0_off84_inb k) 1 k.val 384 (k0_off84_eq k) _ _ _ (by decide) h1 h2 (by simpa using hq.1) (by simpa using hq.2)⟩
    · exact ⟨_, List.mem_of_getElem? (i := 31) rfl, mem_of _ (k0_off66_inb k) 0 k.val 512 (k0_off66_eq k) _ _ _ (by decide) h1 h2 (by simpa using hq.1) (by simpa using hq.2)⟩
    · exact ⟨_, List.mem_of_getElem? (i := 13) rfl, mem_of _ (k0_off85_inb k) 1 k.val 512 (k0_off85_eq k) _ _ _ (by decide) h1 h2 (by simpa using hq.1) (by simpa using hq.2)⟩
    · exact ⟨_, List.mem_of_getElem? (i := 30) rfl, mem_of _ (k0_off67_inb k) 0 k.val 640 (k0_off67_eq k) _ _ _ (by decide) h1 h2 (by simpa using hq.1) (by simpa using hq.2)⟩
    · exact ⟨_, List.mem_of_getElem? (i := 12) rfl, mem_of _ (k0_off86_inb k) 1 k.val 640 (k0_off86_eq k) _ _ _ (by decide) h1 h2 (by simpa using hq.1) (by simpa using hq.2)⟩
    · exact ⟨_, List.mem_of_getElem? (i := 29) rfl, mem_of _ (k0_off68_inb k) 0 k.val 768 (k0_off68_eq k) _ _ _ (by decide) h1 h2 (by simpa using hq.1) (by simpa using hq.2)⟩
    · exact ⟨_, List.mem_of_getElem? (i := 11) rfl, mem_of _ (k0_off87_inb k) 1 k.val 768 (k0_off87_eq k) _ _ _ (by decide) h1 h2 (by simpa using hq.1) (by simpa using hq.2)⟩
    · exact ⟨_, List.mem_of_getElem? (i := 28) rfl, mem_of _ (k0_off69_inb k) 0 k.val 896 (k0_off69_eq k) _ _ _ (by decide) h1 h2 (by simpa using hq.1) (by simpa using hq.2)⟩
    · exact ⟨_, List.mem_of_getElem? (i := 10) rfl, mem_of _ (k0_off88_inb k) 1 k.val 896 (k0_off88_eq k) _ _ _ (by decide) h1 h2 (by simpa using hq.1) (by simpa using hq.2)⟩
    · exact ⟨_, List.mem_of_getElem? (i := 27) rfl, mem_of _ (k0_off70_inb k) 0 k.val 1024 (k0_off70_eq k) _ _ _ (by decide) h1 h2 (by simpa using hq.1) (by simpa using hq.2)⟩
    · exact ⟨_, List.mem_of_getElem? (i := 9) rfl, mem_of _ (k0_off89_inb k) 1 k.val 1024 (k0_off89_eq k) _ _ _ (by decide) h1 h2 (by simpa using hq.1) (by simpa using hq.2)⟩
    · exact ⟨_, List.mem_of_getElem? (i := 26) rfl, mem_of _ (k0_off71_inb k) 0 k.val 1152 (k0_off71_eq k) _ _ _ (by decide) h1 h2 (by simpa using hq.1) (by simpa using hq.2)⟩
    · exact ⟨_, List.mem_of_getElem? (i := 8) rfl, mem_of _ (k0_off90_inb k) 1 k.val 1152 (k0_off90_eq k) _ _ _ (by decide) h1 h2 (by simpa using hq.1) (by simpa using hq.2)⟩
    · exact ⟨_, List.mem_of_getElem? (i := 25) rfl, mem_of _ (k0_off72_inb k) 0 k.val 1280 (k0_off72_eq k) _ _ _ (by decide) h1 h2 (by simpa using hq.1) (by simpa using hq.2)⟩
    · exact ⟨_, List.mem_of_getElem? (i := 7) rfl, mem_of _ (k0_off91_inb k) 1 k.val 1280 (k0_off91_eq k) _ _ _ (by decide) h1 h2 (by simpa using hq.1) (by simpa using hq.2)⟩
    · exact ⟨_, List.mem_of_getElem? (i := 24) rfl, mem_of _ (k0_off73_inb k) 0 k.val 1408 (k0_off73_eq k) _ _ _ (by decide) h1 h2 (by simpa using hq.1) (by simpa using hq.2)⟩
    · exact ⟨_, List.mem_of_getElem? (i := 6) rfl, mem_of _ (k0_off92_inb k) 1 k.val 1408 (k0_off92_eq k) _ _ _ (by decide) h1 h2 (by simpa using hq.1) (by simpa using hq.2)⟩
    · exact ⟨_, List.mem_of_getElem? (i := 23) rfl, mem_of _ (k0_off74_inb k) 0 k.val 1536 (k0_off74_eq k) _ _ _ (by decide) h1 h2 (by simpa using hq.1) (by simpa using hq.2)⟩
    · exact ⟨_, List.mem_of_getElem? (i := 5) rfl, mem_of _ (k0_off93_inb k) 1 k.val 1536 (k0_off93_eq k) _ _ _ (by decide) h1 h2 (by simpa using hq.1) (by simpa using hq.2)⟩
    · exact ⟨_, List.mem_of_getElem? (i := 22) rfl, mem_of _ (k0_off75_inb k) 0 k.val 1664 (k0_off75_eq k) _ _ _ (by decide) h1 h2 (by simpa using hq.1) (by simpa using hq.2)⟩
    · exact ⟨_, List.mem_of_getElem? (i := 4) rfl, mem_of _ (k0_off94_inb k) 1 k.val 1664 (k0_off94_eq k) _ _ _ (by decide) h1 h2 (by simpa using hq.1) (by simpa using hq.2)⟩
    · exact ⟨_, List.mem_of_getElem? (i := 21) rfl, mem_of _ (k0_off76_inb k) 0 k.val 1792 (k0_off76_eq k) _ _ _ (by decide) h1 h2 (by simpa using hq.1) (by simpa using hq.2)⟩
    · exact ⟨_, List.mem_of_getElem? (i := 3) rfl, mem_of _ (k0_off95_inb k) 1 k.val 1792 (k0_off95_eq k) _ _ _ (by decide) h1 h2 (by simpa using hq.1) (by simpa using hq.2)⟩
    · exact ⟨_, List.mem_of_getElem? (i := 20) rfl, mem_of _ (k0_off77_inb k) 0 k.val 1920 (k0_off77_eq k) _ _ _ (by decide) h1 h2 (by simpa using hq.1) (by simpa using hq.2)⟩
    · exact ⟨_, List.mem_of_getElem? (i := 2) rfl, mem_of _ (k0_off96_inb k) 1 k.val 1920 (k0_off96_eq k) _ _ _ (by decide) h1 h2 (by simpa using hq.1) (by simpa using hq.2)⟩
    · exact ⟨_, List.mem_of_getElem? (i := 19) rfl, mem_of _ (k0_off78_inb k) 0 k.val 2048 (k0_off78_eq k) _ _ _ (by decide) h1 h2 (by simpa using hq.1) (by simpa using hq.2)⟩
    · exact ⟨_, List.mem_of_getElem? (i := 1) rfl, mem_of _ (k0_off97_inb k) 1 k.val 2048 (k0_off97_eq k) _ _ _ (by decide) h1 h2 (by simpa using hq.1) (by simpa using hq.2)⟩
    · exact ⟨_, List.mem_of_getElem? (i := 18) rfl, mem_of _ (k0_off79_inb k) 0 k.val 2176 (k0_off79_eq k) _ _ _ (by decide) h1 h2 (by simpa using hq.1) (by simpa using hq.2)⟩
    · exact ⟨_, List.mem_of_getElem? (i := 0) rfl, mem_of _ (k0_off98_inb k) 1 k.val 2176 (k0_off98_eq k) _ _ _ (by decide) h1 h2 (by simpa using hq.1) (by simpa using hq.2)⟩

theorem pb4 (n : ℕ) (hn : n ≤ 8) : Good (fun y => (y 1).val < 32 * n) (Gq (arg15.view.read (Elt Ideal) X15) (arg17.view.read (Elt Ideal) X17)) (pb_k0_t4 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v109 v112 v162 v164 v167 X15 X17 n) := by
  induction n with
  | zero => exact Good.nil fun y h => absurd h (Nat.not_lt_zero _)
  | succ n ih =>
    have e := pb_k0_t4_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v109 v112 v162 v164 v167 X15 X17 ⟨n, (by show n < 8; omega)⟩
    have ih := ih (by omega)
    rw [e]
    exact Good.append (trip4_q c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v109 v112 v162 v164 v167 X15 X17 ⟨n, _⟩) ih (fun y hy => by dsimp only at hy ⊢; omega)

end

end Cert.KernelIdeal.Val

end
-- ==== Proof.VLoop1.lean ====
/- The normalisation loops of the kernel: what they store, in closed form, on the extended reals. -/
module

public import proofs.«01_k».proof.Proof.VLoop4
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

open Cert.Math

/-- The layer normalisation of one row. -/
def lnRow (x : Fin 2304 → EReal) (k : Fin 2304) : EReal :=
  (x k - Ideal.div (∑ q, x q) (Ideal.ofBits .f32 0x45100000#32)) *
    Ideal.rsqrt (Ideal.div (∑ p, (x p - Ideal.div (∑ q, x q) (Ideal.ofBits .f32 0x45100000#32)) * (x p - Ideal.div (∑ q, x q) (Ideal.ofBits .f32 0x45100000#32)))
      (Ideal.ofBits .f32 0x45100000#32) + Ideal.ofBits .f32 0x358637BD#32)

/-- The greatest magnitude of one row. -/
def rowMax (v : Fin 2304 → EReal) : EReal :=
  Finset.univ.fold max (Ideal.ofBits .f32 0xFF800000#32) fun k => eabs (v k)

/-- The codes of the normalised activations. -/
def Gh (X : S2x128x2304.Idx → EReal) : S2x128x2304.Idx → EReal := fun j =>
  clip (lnRow (fun k => X (ix3 (j 0) (j 1) k)) (j 2) * kinv (rowMax (lnRow fun k => X (ix3 (j 0) (j 1) k))))

/-- The scales of the normalised activations, one row on every lane. -/
def Ghs (X : S2x128x2304.Idx → EReal) : S2x128x128.Idx → EReal := fun j =>
  kscale (rowMax (lnRow fun k => X (ix3 (j 0) (j 1) k)))

theorem pay2_apply (v : Vec Ideal S1x32x2304 .bf16) (r : Fin 32) (k : Fin 2304) :
    k0_pay2 (F := Ideal) v (ix2 r k) = lnRow (fun k => v (ix3 0 r k)) k := by
  pointwise [k0_pay2]
  rfl

theorem pay3_apply (v : Vec Ideal S1x32x2304 .bf16) (r : Fin 32) :
    k0_pay3 (F := Ideal) v (ix2 r 0) = rowMax (lnRow fun k => v (ix3 0 r k)) := by
  pointwise [k0_pay3]
  simp only [pay2_apply]
  rfl

theorem pay5_apply (v : Vec Ideal S1x32x2304 .bf16) (r : Fin 32) :
    k0_pay5 (F := Ideal) v (ix2 r 0) = fstep (k0_pay4 v (ix2 r 0)) (fstep (k0_pay4 v (ix2 r 0)) 0#32 128#32) 64#32 := by
  pointwise [k0_pay5, fstep, thr]

theorem pay6_apply (m : FVec Ideal S32x1 .f32) (f : IVec S32x1 32) (s : BitVec 32) (r : Fin 32) :
    k0_pay6 (F := Ideal) m f s (ix2 r 0) = fstep (m (ix2 r 0)) (fstep (m (ix2 r 0)) (fstep (m (ix2 r 0)) (fstep (m (ix2 r 0)) (fstep (m (ix2 r 0)) (fstep (m (ix2 r 0)) (f (ix2 r 0)) s) 16#32) 8#32) 4#32) 2#32) 1#32 := by
  pointwise [k0_pay6, fstep, thr]

theorem pay4_apply (v : Vec Ideal S1x32x2304 .bf16) (r : Fin 32) :
    k0_pay4 (F := Ideal) v (ix2 r 0) = (eabs (k0_pay3 v (ix2 r 0) * c448)) := by
  pointwise [k0_pay4]
  rfl

theorem field_apply (v : Vec Ideal S1x32x2304 .bf16) (r : Fin 32) :
    k0_pay6 (F := Ideal) (k0_pay4 v) (k0_pay5 v) 32#32 (ix2 r 0) = kfield (eabs (k0_pay3 v (ix2 r 0) * c448)) := by
  rw [pay6_apply, pay5_apply, pay4_apply]
  rfl

theorem pay15_apply (a : FVec Ideal S32x1 .f32) (m : FVec Ideal S32x1 .f32) (f : IVec S32x1 32) (s : BitVec 32) (r : Fin 32) :
    k0_pay15 (F := Ideal) a (k0_pay6 m f s) (k0_pay7 m f s) (ix2 r 0) = kexp (a (ix2 r 0)) (k0_pay6 m f s (ix2 r 0)) := by
  pointwise [k0_pay15, k0_pay7, kexp]

theorem pay17_apply (v : Vec Ideal S1x32x2304 .bf16) (z : Fin 1) (r : Fin 32) (l : Fin 128) :
    k0_pay17 (F := Ideal) (k0_pay3 v) (k0_pay6 (F := Ideal) (k0_pay4 v) (k0_pay5 v) 32#32) (k0_pay7 (k0_pay4 v) (k0_pay5 v) 32#32) (ix3 z r l)
      = kscale (rowMax (lnRow fun k => v (ix3 0 r k))) := by
  pointwise [k0_pay17]
  rw [pay15_apply, field_apply, pay3_apply]
  rfl

theorem pay16_apply (v : Vec Ideal S1x32x2304 .bf16) (z : Fin 1) (r : Fin 32) (l : Fin 2304) :
    k0_pay16 (F := Ideal) (k0_pay2 v) (k0_pay3 v) (k0_pay6 (F := Ideal) (k0_pay4 v) (k0_pay5 v) 32#32) (k0_pay7 (k0_pay4 v) (k0_pay5 v) 32#32) (ix3 z r l)
      = clip (lnRow (fun k => v (ix3 0 r k)) l * kinv (rowMax (lnRow fun k => v (ix3 0 r k)))) := by
  pointwise [k0_pay16]
  rw [pay15_apply, field_apply, pay3_apply, pay2_apply]
  rfl

theorem row_eq (arg1 : Memref sig .tc .vmem S2x128x2304 .bf16) (X1 : BufTy.Contents (Elt Ideal) arg1.view.ty)
    (off : Fin 3 → ℕ) (h : ∀ a, off a + S1x32x2304.size a ≤ S2x128x2304.size a) (b k : ℕ) (e : off = ![b, 32 * k, 0]) (hb : b < 2) (hk : 32 * k + 32 ≤ 128) (r : Fin 32) :
    (fun q : Fin 2304 => View.readAt (Elt Ideal) arg1.view (Rect.unit (s := S2x128x2304) off S1x32x2304.size h).toLoadRect X1 (ix3 0 r q))
      = fun q => arg1.view.read (Elt Ideal) X1 (ix3 (⟨b, hb⟩ : Fin 2) (⟨32 * k + r.val, by omega⟩ : Fin 128) q) := by
  subst e
  funext q
  rw [View.readAt_apply]
  refine congrArg _ ?_
  funext a; apply Fin.ext; fin_cases a <;> simp [Rect.unit, Rect.emb, LoadRect.idx]

theorem piece_h (arg1 : Memref sig .tc .vmem S2x128x2304 .bf16) (X1 : BufTy.Contents (Elt Ideal) arg1.view.ty)
    (off : Fin 3 → ℕ) (h : ∀ a, off a + S1x32x2304.size a ≤ S2x128x2304.size a) (b k : ℕ) (e : off = ![b, 32 * k, 0])
    (v : Vec Ideal S1x32x2304 .bf16) (hv : v = View.readAt (Elt Ideal) arg1.view (Rect.unit (s := S2x128x2304) off S1x32x2304.size h).toLoadRect X1) (x : S1x32x2304.Idx) :
    k0_pay16 (F := Ideal) (k0_pay2 v) (k0_pay3 v) (k0_pay6 (F := Ideal) (k0_pay4 v) (k0_pay5 v) 32#32) (k0_pay7 (k0_pay4 v) (k0_pay5 v) 32#32) x
      = Gh (arg1.view.read (Elt Ideal) X1) ((Rect.unit (s := S2x128x2304) off S1x32x2304.size h).emb x) := by
  have hb : b + 1 ≤ 2 := by have := h 0; rw [e] at this; exact this
  have hk : 32 * k + 32 ≤ 128 := by have := h 1; rw [e] at this; exact this
  idx_vars x
  refine (pay16_apply _ _ _ _).trans ?_
  have er : (fun q : Fin 2304 => v (ix3 0 x1 q)) = fun q => arg1.view.read (Elt Ideal) X1 (ix3 (⟨b, hb⟩ : Fin 2) (⟨32 * k + x1.val, by omega⟩ : Fin 128) q) := by
    rw [hv]; exact row_eq arg1 X1 off h b k e hb hk x1
  rw [er]
  have ei : (Rect.unit (s := S2x128x2304) off S1x32x2304.size h).emb (ix3 x0 x1 x2) = ix3 (⟨b, hb⟩ : Fin 2) (⟨32 * k + x1.val, by omega⟩ : Fin 128) x2 := by
    subst e
    funext a; apply Fin.ext; fin_cases a <;> simp [Rect.unit, Rect.emb]
  rw [ei]
  rfl

theorem piece_hs (arg1 : Memref sig .tc .vmem S2x128x2304 .bf16) (X1 : BufTy.Contents (Elt Ideal) arg1.view.ty)
    (off : Fin 3 → ℕ) (h : ∀ a, off a + S1x32x2304.size a ≤ S2x128x2304.size a) (off' : Fin 3 → ℕ) (h' : ∀ a, off' a + S1x32x128.size a ≤ S2x128x128.size a)
    (b k : ℕ) (e : off = ![b, 32 * k, 0]) (e' : off' = ![b, 32 * k, 0])
    (v : Vec Ideal S1x32x2304 .bf16) (hv : v = View.readAt (Elt Ideal) arg1.view (Rect.unit (s := S2x128x2304) off S1x32x2304.size h).toLoadRect X1) (x : S1x32x128.Idx) :
    k0_pay17 (F := Ideal) (k0_pay3 v) (k0_pay6 (F := Ideal) (k0_pay4 v) (k0_pay5 v) 32#32) (k0_pay7 (k0_pay4 v) (k0_pay5 v) 32#32) x
      = Ghs (arg1.view.read (Elt Ideal) X1) ((Rect.unit (s := S2x128x128) off' S1x32x128.size h').emb x) := by
  have hb : b + 1 ≤ 2 := by have := h 0; rw [e] at this; exact this
  have hk : 32 * k + 32 ≤ 128 := by have := h 1; rw [e] at this; exact this
  idx_vars x
  refine (pay17_apply _ _ _ _).trans ?_
  have er : (fun q : Fin 2304 => v (ix3 0 x1 q)) = fun q => arg1.view.read (Elt Ideal) X1 (ix3 (⟨b, hb⟩ : Fin 2) (⟨32 * k + x1.val, by omega⟩ : Fin 128) q) := by
    rw [hv]; exact row_eq arg1 X1 off h b k e hb hk x1
  rw [er]
  have ei : (Rect.unit (s := S2x128x128) off' S1x32x128.size h').emb (ix3 x0 x1 x2) = ix3 (⟨b, hb⟩ : Fin 2) (⟨32 * k + x1.val, by omega⟩ : Fin 128) x2 := by
    subst e'
    funext a; apply Fin.ext; fin_cases a <;> simp [Rect.unit, Rect.emb]
  rw [ei]
  rfl

theorem mem_row {N : ℕ} (sz : Fin 3 → ℕ) (hs : sz = ![1, 32, N]) (off : Fin 3 → ℕ) (h) (b k : ℕ) (e : off = ![b, 32 * k, 0]) (y0 : Fin 2) (y1 : Fin 128) (y2 : Fin N)
    (h0 : y0.val = b) (h1 : 32 * k ≤ y1.val) (h2 : y1.val < 32 * k + 32) :
    (ix3 y0 y1 y2 : (⟨3, ![2, 128, N]⟩ : Shape).Idx) ∈ (Rect.unit (s := ⟨3, ![2, 128, N]⟩) off sz h).set := by
  subst e hs
  rw [Rect.mem_set_unit]
  intro a
  fin_cases a
  · exact ⟨(by show b ≤ y0.val; omega), (by show y0.val < b + 1; omega)⟩
  · exact ⟨h1, h2⟩
  · exact ⟨Nat.zero_le _, (by show y2.val < 0 + N; omega)⟩

section
variable (c : Dev nD) (bd : Option Variants.none.V) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (k0_h1 : k0_cond1 i = 1#1) (X1 : BufTy.Contents (Elt Ideal) arg1.view.ty)

theorem trip1_h (k : Fin k0_t1_loop.trips) : Good (fun y => (y 0).val = 0 ∧ 32 * k.val ≤ (y 1).val ∧ (y 1).val < 32 * k.val + 32) (Gh (arg1.view.read (Elt Ideal) X1)) (trip_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 k).1 := by
  unfold trip_k0_t1
  dsimp only
  refine ⟨?_, ?_⟩
  · refine List.forall_mem_cons.2 ⟨fun x => piece_h arg1 X1 (k0_off1 k) (k0_off1_inb i k k0_h1) 0 k.val (k0_off1_eq k) _ rfl x, ?_⟩
    exact fun p hp => absurd hp List.not_mem_nil
  · rintro y ⟨h0, h1, h2⟩
    idx_vars y
    have h1 : 32 * k.val ≤ y1.val := h1
    have h2 : y1.val < 32 * k.val + 32 := h2
    exact ⟨_, List.mem_of_getElem? (i := 0) rfl, mem_row S1x32x2304.size rfl _ (k0_off1_inb i k k0_h1) 0 k.val (k0_off1_eq k) _ _ _ h0 h1 h2⟩

theorem trip1_hs (k : Fin k0_t1_loop.trips) : Good (fun y => (y 0).val = 0 ∧ 32 * k.val ≤ (y 1).val ∧ (y 1).val < 32 * k.val + 32) (Ghs (arg1.view.read (Elt Ideal) X1)) (trip_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 k).2.1 := by
  unfold trip_k0_t1
  dsimp only
  refine ⟨?_, ?_⟩
  · refine List.forall_mem_cons.2 ⟨fun x => piece_hs arg1 X1 (k0_off1 k) (k0_off1_inb i k k0_h1) (k0_off2 k) (k0_off2_inb i k k0_h1) 0 k.val (k0_off1_eq k) (k0_off2_eq k) _ rfl x, ?_⟩
    exact fun p hp => absurd hp List.not_mem_nil
  · rintro y ⟨h0, h1, h2⟩
    idx_vars y
    have h1 : 32 * k.val ≤ y1.val := h1
    have h2 : y1.val < 32 * k.val + 32 := h2
    exact ⟨_, List.mem_of_getElem? (i := 0) rfl, mem_row S1x32x128.size rfl _ (k0_off2_inb i k k0_h1) 0 k.val (k0_off2_eq k) _ _ _ h0 h1 h2⟩

theorem pb1 (n : ℕ) (hn : n ≤ 4) : Good (fun y => (y 0).val = 0 ∧ (y 1).val < 32 * n) (Gh (arg1.view.read (Elt Ideal) X1)) (pb_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 n).1
    ∧ Good (fun y => (y 0).val = 0 ∧ (y 1).val < 32 * n) (Ghs (arg1.view.read (Elt Ideal) X1)) (pb_k0_t1 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 n).2 := by
  induction n with
  | zero => exact ⟨Good.nil fun y h => absurd h.2 (Nat.not_lt_zero _), Good.nil fun y h => absurd h.2 (Nat.not_lt_zero _)⟩
  | succ n ih =>
    have e := pb_k0_t1_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, (by show n < 4; omega)⟩
    have ih := ih (by omega)
    rw [e]
    exact ⟨Good.append (trip1_h c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, _⟩) ih.1 (fun y hy => by dsimp only at hy ⊢; omega),
      Good.append (trip1_hs c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, _⟩) ih.2 (fun y hy => by dsimp only at hy ⊢; omega)⟩

theorem trip2_h (k : Fin k0_t2_loop.trips) : Good (fun y => (y 0).val = 1 ∧ 32 * k.val ≤ (y 1).val ∧ (y 1).val < 32 * k.val + 32) (Gh (arg1.view.read (Elt Ideal) X1)) (trip_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 k).1 := by
  unfold trip_k0_t2
  dsimp only
  refine ⟨?_, ?_⟩
  · refine List.forall_mem_cons.2 ⟨fun x => piece_h arg1 X1 (k0_off3 k) (k0_off3_inb i k k0_h1) 1 k.val (k0_off3_eq k) _ rfl x, ?_⟩
    exact fun p hp => absurd hp List.not_mem_nil
  · rintro y ⟨h0, h1, h2⟩
    idx_vars y
    have h1 : 32 * k.val ≤ y1.val := h1
    have h2 : y1.val < 32 * k.val + 32 := h2
    exact ⟨_, List.mem_of_getElem? (i := 0) rfl, mem_row S1x32x2304.size rfl _ (k0_off3_inb i k k0_h1) 1 k.val (k0_off3_eq k) _ _ _ h0 h1 h2⟩

theorem trip2_hs (k : Fin k0_t2_loop.trips) : Good (fun y => (y 0).val = 1 ∧ 32 * k.val ≤ (y 1).val ∧ (y 1).val < 32 * k.val + 32) (Ghs (arg1.view.read (Elt Ideal) X1)) (trip_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 k).2.1 := by
  unfold trip_k0_t2
  dsimp only
  refine ⟨?_, ?_⟩
  · refine List.forall_mem_cons.2 ⟨fun x => piece_hs arg1 X1 (k0_off3 k) (k0_off3_inb i k k0_h1) (k0_off4 k) (k0_off4_inb i k k0_h1) 1 k.val (k0_off3_eq k) (k0_off4_eq k) _ rfl x, ?_⟩
    exact fun p hp => absurd hp List.not_mem_nil
  · rintro y ⟨h0, h1, h2⟩
    idx_vars y
    have h1 : 32 * k.val ≤ y1.val := h1
    have h2 : y1.val < 32 * k.val + 32 := h2
    exact ⟨_, List.mem_of_getElem? (i := 0) rfl, mem_row S1x32x128.size rfl _ (k0_off4_inb i k k0_h1) 1 k.val (k0_off4_eq k) _ _ _ h0 h1 h2⟩

theorem pb2 (n : ℕ) (hn : n ≤ 4) : Good (fun y => (y 0).val = 1 ∧ (y 1).val < 32 * n) (Gh (arg1.view.read (Elt Ideal) X1)) (pb_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 n).1
    ∧ Good (fun y => (y 0).val = 1 ∧ (y 1).val < 32 * n) (Ghs (arg1.view.read (Elt Ideal) X1)) (pb_k0_t2 (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 n).2 := by
  induction n with
  | zero => exact ⟨Good.nil fun y h => absurd h.2 (Nat.not_lt_zero _), Good.nil fun y h => absurd h.2 (Nat.not_lt_zero _)⟩
  | succ n ih =>
    have e := pb_k0_t2_succ (F := Ideal) Variants.none c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, (by show n < 4; omega)⟩
    have ih := ih (by omega)
    rw [e]
    exact ⟨Good.append (trip2_h c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, _⟩) ih.1 (fun y hy => by dsimp only at hy ⊢; omega),
      Good.append (trip2_hs c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X1 ⟨n, _⟩) ih.2 (fun y hy => by dsimp only at hy ⊢; omega)⟩

end

end Cert.KernelIdeal.Val

end
-- ==== Proof.VTail.lean ====
/- The end of the kernel's body: what it stores, in closed form, on the extended reals. -/
module

public import proofs.«01_k».proof.Proof.VLoop1
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

open Cert.Math

/-- The magnitude of a weight row with its weight scale. -/
def amax (pm : S2x256x128.Idx → EReal) (ws : S1x256.Idx → EReal) (b : Fin 2) (r : Fin 256) : EReal :=
  (Finset.univ.fold max (Ideal.ofBits .f32 0xFF800000#32) fun l : Fin 128 => pm (ix3 b r l)) * ws (ix2 0 r)

/-- The scales of the weight rows. -/
def Gsc (pm : S2x256x128.Idx → EReal) (ws : S1x256.Idx → EReal) : S2x256.Idx → EReal := fun j => kscale (amax pm ws (j 0) (j 1))

/-- The factors of the weight rows, on every lane. -/
def Gg (pm : S2x256x128.Idx → EReal) (ws : S1x256.Idx → EReal) : S2x256x128.Idx → EReal := fun j =>
  kinv (amax pm ws (j 0) (j 1)) * ws (ix2 0 (j 1))

/-- One row of the shift product. -/
def shd (SH : S16x2304.Idx → EReal) (W : S256x2304.Idx → EReal) (i : Fin 16) (r : Fin 256) : EReal :=
  ∑ k : Fin 2304, SH (ix2 i k) * W (ix2 r k)

/-- The shift term, the sum of the three parts with the weight scale, and the bias. -/
def shT (SH : S16x2304.Idx → EReal) (W : S256x2304.Idx → EReal) (ws bo : S1x256.Idx → EReal) (b : Fin 2) (r : Fin 256) : EReal :=
  (shd SH W ⟨b.val, by omega⟩ r + shd SH W ⟨b.val + 2, by omega⟩ r + shd SH W ⟨b.val + 4, by omega⟩ r) * ws (ix2 0 r) + bo (ix2 0 r)

/-- The block of the result. -/
def Gy (HC : S2x128x2304.Idx → EReal) (WC : S2x256x2304.Idx → EReal) (HS : S2x128x128.Idx → EReal) (SC : S2x256.Idx → EReal)
    (SH : S16x2304.Idx → EReal) (W : S256x2304.Idx → EReal) (ws bo : S1x256.Idx → EReal) : S2x128x256.Idx → EReal := fun j =>
  (∑ k : Fin 2304, HC (ix3 (j 0) (j 1) k) * WC (ix3 (j 0) (j 2) k)) * HS (ix3 (j 0) (j 1) ⟨(j 2).val % 128, Nat.mod_lt _ (by decide)⟩)
    * SC (ix2 (j 0) (j 2)) + shT SH W ws bo (j 0) (j 2)

theorem pay198_apply (v4 : Vec Ideal S1x256 .f32) (r : Fin 256) : k0_pay198 (F := Ideal) v4 (ix2 0 r) = v4 (ix2 0 r) := by
  pointwise [k0_pay198]

theorem pay199_apply (v4 : Vec Ideal S1x256 .f32) (v6 : Vec Ideal S1x256x128 .f32) (r : Fin 256) :
    k0_pay199 (F := Ideal) v4 v6 (ix2 0 r) = (Finset.univ.fold max (Ideal.ofBits .f32 0xFF800000#32) fun l : Fin 128 => v6 (ix3 0 r l)) * v4 (ix2 0 r) := by
  pointwise [k0_pay199, k0_pay198]

theorem pay208_apply (v5 : FVec Ideal S1x256 .f32) (v6 : Vec Ideal S1x256x128 .f32) (r : Fin 256) :
    k0_pay208 (F := Ideal) v5 v6 (ix2 0 r) = (Finset.univ.fold max (Ideal.ofBits .f32 0xFF800000#32) fun l : Fin 128 => v6 (ix3 0 r l)) * v5 (ix2 0 r) := by
  pointwise [k0_pay208]

theorem pay200_apply (v4 : Vec Ideal S1x256 .f32) (v6 : Vec Ideal S1x256x128 .f32) (r : Fin 256) :
    k0_pay200 (F := Ideal) v4 v6 (ix2 0 r) = eabs (k0_pay199 v4 v6 (ix2 0 r) * c448) := by
  pointwise [k0_pay200]
  rfl

theorem pay209_apply (v4 : FVec Ideal S1x256 .f32) (v6 : Vec Ideal S1x256x128 .f32) (r : Fin 256) :
    k0_pay209 (F := Ideal) v4 v6 (ix2 0 r) = eabs (k0_pay208 v4 v6 (ix2 0 r) * c448) := by
  pointwise [k0_pay209]
  rfl

theorem pay201_apply (v4 : Vec Ideal S1x256 .f32) (v6 : Vec Ideal S1x256x128 .f32) (r : Fin 256) :
    k0_pay201 (F := Ideal) v4 v6 (ix2 0 r) = fstep (k0_pay200 v4 v6 (ix2 0 r)) (fstep (k0_pay200 v4 v6 (ix2 0 r)) (fstep (k0_pay200 v4 v6 (ix2 0 r)) 0#32 128#32) 64#32) 32#32 := by
  pointwise [k0_pay201, fstep, thr]

theorem pay210_apply (v4 : FVec Ideal S1x256 .f32) (v6 : Vec Ideal S1x256x128 .f32) (r : Fin 256) :
    k0_pay210 (F := Ideal) v4 v6 (ix2 0 r) = fstep (k0_pay209 v4 v6 (ix2 0 r)) 0#32 128#32 := by
  pointwise [k0_pay210, fstep, thr]

theorem pay202_apply (m : FVec Ideal S1x256 .f32) (f : IVec S1x256 32) (r : Fin 256) :
    k0_pay202 (F := Ideal) m f (ix2 0 r) = fstep (m (ix2 0 r)) (fstep (m (ix2 0 r)) (fstep (m (ix2 0 r)) (fstep (m (ix2 0 r)) (fstep (m (ix2 0 r)) (f (ix2 0 r)) 16#32) 8#32) 4#32) 2#32) 1#32 := by
  pointwise [k0_pay202, fstep, thr]

theorem pay211_apply (m : FVec Ideal S1x256 .f32) (f : IVec S1x256 32) (s : BitVec 32) (r : Fin 256) :
    k0_pay211 (F := Ideal) m f s (ix2 0 r) = fstep (m (ix2 0 r)) (fstep (m (ix2 0 r)) (fstep (m (ix2 0 r)) (fstep (m (ix2 0 r)) (fstep (m (ix2 0 r)) (fstep (m (ix2 0 r)) (f (ix2 0 r)) s) 32#32) 16#32) 8#32) 4#32) 2#32 := by
  pointwise [k0_pay211, fstep, thr]

theorem field0 (v4 : Vec Ideal S1x256 .f32) (v6 : Vec Ideal S1x256x128 .f32) (r : Fin 256) :
    k0_pay202 (F := Ideal) (k0_pay200 v4 v6) (k0_pay201 v4 v6) (ix2 0 r) = kfield (eabs (k0_pay199 v4 v6 (ix2 0 r) * c448)) := by
  rw [pay202_apply, pay201_apply, pay200_apply]
  rfl

theorem pay205_apply (a m : FVec Ideal S1x256 .f32) (f : IVec S1x256 32) (r : Fin 256) :
    k0_pay205 (k0_pay203 a m f) (k0_pay204 m f) 0#32 (ix2 0 r) = kexp (a (ix2 0 r)) (k0_pay202 m f (ix2 0 r)) := by
  pointwise [k0_pay205, k0_pay203, k0_pay204, kexp]

theorem pay214_apply (a m : FVec Ideal S1x256 .f32) (f : IVec S1x256 32) (s : BitVec 32) (r : Fin 256) :
    k0_pay214 (F := Ideal) a m (k0_pay211 m f s) (k0_pay212 m f s) (k0_pay213 m f s) (ix2 0 r)
      = kexp (a (ix2 0 r)) (fstep (m (ix2 0 r)) (k0_pay211 m f s (ix2 0 r)) 1#32) := by
  pointwise [k0_pay214, k0_pay212, k0_pay213, kexp, fstep, thr]

theorem field1 (v4 : FVec Ideal S1x256 .f32) (v6 : Vec Ideal S1x256x128 .f32) (r : Fin 256) :
    fstep (k0_pay209 v4 v6 (ix2 0 r)) (k0_pay211 (F := Ideal) (k0_pay209 v4 v6) (k0_pay210 v4 v6) 64#32 (ix2 0 r)) 1#32 = kfield (eabs (k0_pay208 v4 v6 (ix2 0 r) * c448)) := by
  rw [pay211_apply, pay210_apply, pay209_apply]
  rfl

theorem pay206_apply (v4 : Vec Ideal S1x256 .f32) (v6 : Vec Ideal S1x256x128 .f32) (z : Fin 1) (r : Fin 256) :
    k0_pay206 (F := Ideal) (k0_pay203 (k0_pay199 v4 v6) (k0_pay200 v4 v6) (k0_pay201 v4 v6)) (k0_pay204 (k0_pay200 v4 v6) (k0_pay201 v4 v6)) 0#32 (ix2 z r)
      = kscale ((Finset.univ.fold max (Ideal.ofBits .f32 0xFF800000#32) fun l : Fin 128 => v6 (ix3 0 r l)) * v4 (ix2 0 r)) := by
  obtain rfl : z = 0 := Subsingleton.elim _ _
  pointwise [k0_pay206]
  rw [pay205_apply, field0, pay199_apply]
  rfl

theorem pay215_apply (v4 : FVec Ideal S1x256 .f32) (v6 : Vec Ideal S1x256x128 .f32) (z : Fin 1) (r : Fin 256) :
    k0_pay215 (F := Ideal) (k0_pay208 v4 v6) (k0_pay209 v4 v6) (k0_pay211 (k0_pay209 v4 v6) (k0_pay210 v4 v6) 64#32) (k0_pay212 (k0_pay209 v4 v6) (k0_pay210 v4 v6) 64#32)
        (k0_pay213 (k0_pay209 v4 v6) (k0_pay210 v4 v6) 64#32) (ix2 z r)
      = kscale ((Finset.univ.fold max (Ideal.ofBits .f32 0xFF800000#32) fun l : Fin 128 => v6 (ix3 0 r l)) * v4 (ix2 0 r)) := by
  obtain rfl : z = 0 := Subsingleton.elim _ _
  pointwise [k0_pay215]
  rw [pay214_apply, field1, pay208_apply]
  rfl

theorem pay207_apply (v5 : FVec Ideal S1x256 .f32) (v4 : Vec Ideal S1x256 .f32) (v6 : Vec Ideal S1x256x128 .f32) (z : Fin 1) (r : Fin 256) (l : Fin 128) :
    k0_pay207 (F := Ideal) v5 (k0_pay203 (k0_pay199 v4 v6) (k0_pay200 v4 v6) (k0_pay201 v4 v6)) (k0_pay204 (k0_pay200 v4 v6) (k0_pay201 v4 v6)) 0#32 (ix3 z r l)
      = kinv ((Finset.univ.fold max (Ideal.ofBits .f32 0xFF800000#32) fun l : Fin 128 => v6 (ix3 0 r l)) * v4 (ix2 0 r)) * v5 (ix2 0 r) := by
  pointwise [k0_pay207]
  rw [pay205_apply, field0, pay199_apply]
  rfl

theorem pay216_apply (v5 : FVec Ideal S1x256 .f32) (v4 : FVec Ideal S1x256 .f32) (v6 : Vec Ideal S1x256x128 .f32) (z : Fin 1) (r : Fin 256) (l : Fin 128) :
    k0_pay216 (F := Ideal) v5 (k0_pay208 v4 v6) (k0_pay209 v4 v6) (k0_pay211 (k0_pay209 v4 v6) (k0_pay210 v4 v6) 64#32) (k0_pay212 (k0_pay209 v4 v6) (k0_pay210 v4 v6) 64#32)
        (k0_pay213 (k0_pay209 v4 v6) (k0_pay210 v4 v6) 64#32) (ix3 z r l)
      = kinv ((Finset.univ.fold max (Ideal.ofBits .f32 0xFF800000#32) fun l : Fin 128 => v6 (ix3 0 r l)) * v4 (ix2 0 r)) * v5 (ix2 0 r) := by
  pointwise [k0_pay216]
  rw [pay214_apply, field1, pay208_apply]
  rfl

theorem pay218_apply (v203 : Vec Ideal S16x2304 .bf16) (v204 : Vec Ideal S256x2304 .fp8e4m3) (i : Fin 16) (r : Fin 256) :
    k0_pay218 (F := Ideal) v203 v204 (ix2 i r) = shd v203 v204 i r := by
  pointwise [k0_pay218]
  rfl

theorem lane_eq (v : Vec Ideal S1x128x128 .f32) (s : Fin 128) (r : Fin 256) :
    (if h : r.val < 128 then v (ix3 0 s ⟨r.val, h⟩) else v (ix3 0 s ⟨r.val - 128, by omega⟩)) = v (ix3 0 s ⟨r.val % 128, Nat.mod_lt _ (by decide)⟩) := by
  split
  · rename_i h
    exact congrArg v (congrArg (ix3 0 s) (Fin.ext (Nat.mod_eq_of_lt h).symm))
  · exact congrArg v (congrArg (ix3 0 s) (Fin.ext (by dsimp only; omega)))

theorem pay219_apply (v5 : FVec Ideal S1x256 .f32) (v203 : Vec Ideal S16x2304 .bf16) (v204 : Vec Ideal S256x2304 .fp8e4m3) (v212 : Vec Ideal S1x256 .f32)
    (v215 : Vec Ideal S1x128x2304 .fp8e4m3) (v217 : Vec Ideal S1x256x2304 .fp8e4m3) (v220 : Vec Ideal S1x128x128 .f32) (v224 : Vec Ideal S1x256 .f32)
    (z : Fin 1) (s : Fin 128) (r : Fin 256) :
    k0_pay219 (F := Ideal) v5 v203 v204 v212 v215 v217 v220 v224 (ix3 z s r)
      = (∑ k : Fin 2304, v215 (ix3 0 s k) * v217 (ix3 0 r k)) * v220 (ix3 0 s ⟨r.val % 128, Nat.mod_lt _ (by decide)⟩) * v224 (ix2 0 r)
        + ((shd v203 v204 0 r + shd v203 v204 2 r + shd v203 v204 4 r) * v5 (ix2 0 r) + v212 (ix2 0 r)) := by
  pointwise [k0_pay219]
  rw [lane_eq]
  simp only [pay218_apply]

theorem pay1_apply (v239 : FVec Ideal S1x256 .f32) (v212 : Vec Ideal S1x256 .f32)
    (v215 : Vec Ideal S1x128x2304 .fp8e4m3) (v217 : Vec Ideal S1x256x2304 .fp8e4m3) (v220 : Vec Ideal S1x128x128 .f32) (v224 : Vec Ideal S1x256 .f32)
    (z : Fin 1) (s : Fin 128) (r : Fin 256) :
    k0_pay1 (F := Ideal) v239 v212 v215 v217 v220 v224 (ix3 z s r)
      = (∑ k : Fin 2304, v215 (ix3 0 s k) * v217 (ix3 0 r k)) * v220 (ix3 0 s ⟨r.val % 128, Nat.mod_lt _ (by decide)⟩) * v224 (ix2 0 r)
        + (v239 (ix2 0 r) + v212 (ix2 0 r)) := by
  pointwise [k0_pay1]
  rw [lane_eq]

theorem pay220_apply (v5 : FVec Ideal S1x256 .f32) (v203 : Vec Ideal S16x2304 .bf16) (v204 : Vec Ideal S256x2304 .fp8e4m3) (r : Fin 256) :
    k0_pay220 (F := Ideal) v5 v203 v204 (ix2 0 r) = (shd v203 v204 1 r + shd v203 v204 3 r + shd v203 v204 5 r) * v5 (ix2 0 r) := by
  pointwise [k0_pay220]
  simp only [pay218_apply]

theorem pay14_apply (v : Vec Ideal S1x2304 .f32) (z : Fin 1) (r : Fin 8) (k : Fin 2304) :
    k0_pay14 (F := Ideal) v (ix3 z r k) = Ideal.ofBits .f32 0x3F800000#32 + v (ix2 0 k) := by
  pointwise [k0_pay14]

theorem pay18_apply (v : Vec Ideal S1x128x128 .f32) (z : Fin 1) (r : Fin 128) :
    k0_pay18 (F := Ideal) v (ix2 z r) = v (ix3 0 r 0) := by
  pointwise [k0_pay18]

/-- The shift in three parts, then rows of zeros. -/
def Gsh (S : S2x2304.Idx → EReal) : S16x2304.Idx → EReal := fun j =>
  if h : (j 0).val < 2 then S (ix2 ⟨(j 0).val, h⟩ (j 1)) else
  if h : (j 0).val - 2 < 2 then S (ix2 ⟨(j 0).val - 2, h⟩ (j 1)) - S (ix2 ⟨(j 0).val - 2, h⟩ (j 1)) else
  if h : (j 0).val - 2 - 2 < 2 then (S (ix2 ⟨(j 0).val - 2 - 2, h⟩ (j 1)) - S (ix2 ⟨(j 0).val - 2 - 2, h⟩ (j 1))) - (S (ix2 ⟨(j 0).val - 2 - 2, h⟩ (j 1)) - S (ix2 ⟨(j 0).val - 2 - 2, h⟩ (j 1))) else 0

theorem pay193_apply (v : Vec Ideal S2x2304 .f32) (r : Fin 16) (k : Fin 2304) :
    k0_pay193 (F := Ideal) v (ix2 r k) = Gsh v (ix2 r k) := by
  pointwise [k0_pay193]
  rfl

end Cert.KernelIdeal.Val

end
-- ==== Proof.KRunA.lean ====
/- The run of the kernel's body in case A (the first point), at any contents. -/
module

public import proofs.«01_k».proof.Proof.KRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in case A at any contents of its buffers: the contents each buffer that it stores into ends with are
    what the run finds, as functions of the contents it starts from. -/
noncomputable def runA (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) :
    Σ' (Y7 : BufTy.Contents (Elt F) arg7.view.ty) (Y8 : BufTy.Contents (Elt F) arg8.view.ty) (Y9 : BufTy.Contents (Elt F) arg9.view.ty) (Y10 : BufTy.Contents (Elt F) arg10.view.ty) (Y11 : BufTy.Contents (Elt F) arg11.view.ty) (Y12 : BufTy.Contents (Elt F) arg12.view.ty) (Y13 : BufTy.Contents (Elt F) arg13.view.ty), { Y14 : BufTy.Contents (Elt F) arg14.view.ty //
      ∀ (E : Set ℕ) (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} Y7) ∗ (arg8.view.loc (c : Thread nD τ) ↦[arg8.view.set]{fullShare} Y8) ∗ (arg9.view.loc (c : Thread nD τ) ↦[arg9.view.set]{fullShare} Y9) ∗ (arg10.view.loc (c : Thread nD τ) ↦[arg10.view.set]{fullShare} Y10) ∗ (arg11.view.loc (c : Thread nD τ) ↦[arg11.view.set]{fullShare} Y11) ∗ (arg12.view.loc (c : Thread nD τ) ↦[arg12.view.set]{fullShare} Y12) ∗ (arg13.view.loc (c : Thread nD τ) ↦[arg13.view.set]{fullShare} Y13) ∗ (arg14.view.loc (c : Thread nD τ) ↦[arg14.view.set]{fullShare} Y14) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f)) -∗ K ⟨⟩))
          ⊢ wp frame (wpE (defs₀ (F := F)) Variants.none c none) E (cc0_adaln_requant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_adaln_requant_eq_skeleton]; unfold cc0_adaln_requant_skel
    simp only [k0_part30_eq_skeleton, k0_part5_eq_skeleton, k0_part31_eq_skeleton, k0_part32_eq_skeleton, k0_part33_eq_skeleton, k0_part34_eq_skeleton, k0_part35_eq_skeleton]
    iintro ⟨H1, H2, H3, H4, H5, H6, H7, H8, H9, H10, H11, H12, H13, H14, H15, H16, H17, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iexists _; iexact H17

end Cert.KernelIdeal.Gen

end
-- ==== Proof.VRun.lean ====
/- The run of the kernel's body: what each buffer ends with, in closed form, on the extended reals. -/
module

public import proofs.«01_k».proof.Proof.VTail
public import proofs.«01_k».proof.Proof.KRunA
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

open Cert.Math

theorem readAt3 {A B : ℕ} {e : EltTy} {κ : Kind} {sp : Space} (v : View sig κ sp ⟨3, ![2, A, B]⟩ e) (f) (b : Fin 2) (off : Fin 3 → ℕ) (ho : off = ![b.val, 0, 0])
    (h : ∀ a, off a + (![1, A, B] : Fin 3 → ℕ) a ≤ (⟨3, ![2, A, B]⟩ : Shape).size a) (z : Fin 1) (r : Fin A) (l : Fin B) :
    View.readAt (Elt Ideal) v (Rect.unit (s := ⟨3, ![2, A, B]⟩) off ![1, A, B] h).toLoadRect f (ix3 z r l) = v.read (Elt Ideal) f (ix3 b r l) := by
  subst ho
  rw [View.readAt_apply]
  refine congrArg _ ?_
  funext a; apply Fin.ext; fin_cases a <;> simp [Rect.unit, Rect.emb, LoadRect.idx]

theorem readAt2 {B : ℕ} {e : EltTy} {κ : Kind} {sp : Space} (v : View sig κ sp ⟨2, ![2, B]⟩ e) (f) (b : Fin 2) (off : Fin 2 → ℕ) (ho : off = ![b.val, 0])
    (h : ∀ a, off a + (![1, B] : Fin 2 → ℕ) a ≤ (⟨2, ![2, B]⟩ : Shape).size a) (z : Fin 1) (l : Fin B) :
    View.readAt (Elt Ideal) v (Rect.unit (s := ⟨2, ![2, B]⟩) off ![1, B] h).toLoadRect f (ix2 z l) = v.read (Elt Ideal) f (ix2 b l) := by
  subst ho
  rw [View.readAt_apply]
  refine congrArg _ ?_
  funext a; apply Fin.ext; fin_cases a <;> simp [Rect.unit, Rect.emb, LoadRect.idx]

theorem readAtF {A B : ℕ} {e : EltTy} {κ : Kind} {sp : Space} (v : View sig κ sp ⟨2, ![A, B]⟩ e) (f)
    (h : ∀ a, (![0, 0] : Fin 2 → ℕ) a + (![A, B] : Fin 2 → ℕ) a ≤ (⟨2, ![A, B]⟩ : Shape).size a) :
    View.readAt (Elt Ideal) v (Rect.unit (s := ⟨2, ![A, B]⟩) ![0, 0] ![A, B] h).toLoadRect f = v.read (Elt Ideal) f := by
  funext y
  rw [View.readAt_apply]
  refine congrArg _ ?_
  funext a; apply Fin.ext; fin_cases a <;> simp [Rect.unit, Rect.emb, LoadRect.idx]

theorem emb3 {A B : ℕ} (b : Fin 2) (off : Fin 3 → ℕ) (ho : off = ![b.val, 0, 0])
    (h : ∀ a, off a + (![1, A, B] : Fin 3 → ℕ) a ≤ (⟨3, ![2, A, B]⟩ : Shape).size a) (z : Fin 1) (r : Fin A) (l : Fin B) :
    (Rect.unit (s := ⟨3, ![2, A, B]⟩) off ![1, A, B] h).emb (ix3 z r l) = ix3 b r l := by
  subst ho
  funext a; apply Fin.ext; fin_cases a <;> simp [Rect.unit, Rect.emb]

theorem emb2 {B : ℕ} (b : Fin 2) (off : Fin 2 → ℕ) (ho : off = ![b.val, 0])
    (h : ∀ a, off a + (![1, B] : Fin 2 → ℕ) a ≤ (⟨2, ![2, B]⟩ : Shape).size a) (z : Fin 1) (l : Fin B) :
    (Rect.unit (s := ⟨2, ![2, B]⟩) off ![1, B] h).emb (ix2 z l) = ix2 b l := by
  subst ho
  funext a; apply Fin.ext; fin_cases a <;> simp [Rect.unit, Rect.emb]

theorem ex3 {a b c : ℕ} (x : (⟨3, ![a, b, c]⟩ : Shape).Idx) : ∃ (p : Fin a) (q : Fin b) (r : Fin c), x = ix3 p q r :=
  ⟨x 0, x 1, x 2, by funext i; fin_cases i <;> rfl⟩

theorem ex2 {a b : ℕ} (x : (⟨2, ![a, b]⟩ : Shape).Idx) : ∃ (p : Fin a) (q : Fin b), x = ix2 p q :=
  ⟨x 0, x 1, by funext i; fin_cases i <;> rfl⟩

/-- Two pieces, one for each sample, that agree with `G`: rank three. -/
theorem good3 {A B : ℕ} {e : EltTy} (G : (⟨3, ![2, A, B]⟩ : Shape).Idx → Elt Ideal e) (h0) (h1)
    (w0 w1 : Vec Ideal ⟨3, ![1, A, B]⟩ e) (e0 : ∀ z r l, w0 (ix3 z r l) = G (ix3 0 r l)) (e1 : ∀ z r l, w1 (ix3 z r l) = G (ix3 1 r l)) :
    Good (fun _ => True) G [⟨Rect.unit (s := ⟨3, ![2, A, B]⟩) ![1, 0, 0] ![1, A, B] h1, w1⟩, ⟨Rect.unit (s := ⟨3, ![2, A, B]⟩) ![0, 0, 0] ![1, A, B] h0, w0⟩] := by
  refine ⟨List.forall_mem_cons.2 ⟨fun (x : (⟨3, ![1, A, B]⟩ : Shape).Idx) => ?_, List.forall_mem_cons.2 ⟨fun (x : (⟨3, ![1, A, B]⟩ : Shape).Idx) => ?_, fun p hp => absurd hp List.not_mem_nil⟩⟩, fun y _ => ?_⟩
  · obtain ⟨x0, x1, x2, rfl⟩ := ex3 x
    exact (e1 _ _ _).trans (congrArg G (emb3 1 _ rfl h1 _ _ _)).symm
  · obtain ⟨x0, x1, x2, rfl⟩ := ex3 x
    exact (e0 _ _ _).trans (congrArg G (emb3 0 _ rfl h0 _ _ _)).symm
  · obtain ⟨y0, y1, y2, rfl⟩ := ex3 y
    by_cases hy : y0 = 1
    · refine ⟨_, List.mem_of_getElem? (i := 0) rfl, ?_⟩
      rw [Rect.mem_set_unit]; intro a; subst hy
      fin_cases a
      · exact ⟨le_refl 1, (by show 1 < 1 + 1; omega)⟩
      · exact ⟨Nat.zero_le _, (by show y1.val < 0 + A; omega)⟩
      · exact ⟨Nat.zero_le _, (by show y2.val < 0 + B; omega)⟩
    · have hy : y0 = 0 := by omega
      refine ⟨_, List.mem_of_getElem? (i := 1) rfl, ?_⟩
      rw [Rect.mem_set_unit]; intro a; subst hy
      fin_cases a
      · exact ⟨le_refl 0, (by show 0 < 0 + 1; omega)⟩
      · exact ⟨Nat.zero_le _, (by show y1.val < 0 + A; omega)⟩
      · exact ⟨Nat.zero_le _, (by show y2.val < 0 + B; omega)⟩

/-- Two pieces, one for each sample, that agree with `G`: rank two. -/
theorem good2 {B : ℕ} {e : EltTy} (G : (⟨2, ![2, B]⟩ : Shape).Idx → Elt Ideal e) (h0) (h1)
    (w0 w1 : Vec Ideal ⟨2, ![1, B]⟩ e) (e0 : ∀ z l, w0 (ix2 z l) = G (ix2 0 l)) (e1 : ∀ z l, w1 (ix2 z l) = G (ix2 1 l)) :
    Good (fun _ => True) G [⟨Rect.unit (s := ⟨2, ![2, B]⟩) ![1, 0] ![1, B] h1, w1⟩, ⟨Rect.unit (s := ⟨2, ![2, B]⟩) ![0, 0] ![1, B] h0, w0⟩] := by
  refine ⟨List.forall_mem_cons.2 ⟨fun (x : (⟨2, ![1, B]⟩ : Shape).Idx) => ?_, List.forall_mem_cons.2 ⟨fun (x : (⟨2, ![1, B]⟩ : Shape).Idx) => ?_, fun p hp => absurd hp List.not_mem_nil⟩⟩, fun y _ => ?_⟩
  · obtain ⟨x0, x1, rfl⟩ := ex2 x
    exact (e1 _ _).trans (congrArg G (emb2 1 _ rfl h1 _ _)).symm
  · obtain ⟨x0, x1, rfl⟩ := ex2 x
    exact (e0 _ _).trans (congrArg G (emb2 0 _ rfl h0 _ _)).symm
  · obtain ⟨y0, y1, rfl⟩ := ex2 y
    by_cases hy : y0 = 1
    · refine ⟨_, List.mem_of_getElem? (i := 0) rfl, ?_⟩
      rw [Rect.mem_set_unit]; intro a; subst hy
      fin_cases a
      · exact ⟨le_refl 1, (by show 1 < 1 + 1; omega)⟩
      · exact ⟨Nat.zero_le _, (by show y1.val < 0 + B; omega)⟩
    · have hy : y0 = 0 := by omega
      refine ⟨_, List.mem_of_getElem? (i := 1) rfl, ?_⟩
      rw [Rect.mem_set_unit]; intro a; subst hy
      fin_cases a
      · exact ⟨le_refl 0, (by show 0 < 0 + 1; omega)⟩
      · exact ⟨Nat.zero_le _, (by show y1.val < 0 + B; omega)⟩

theorem Good.reads {sig : RefSig} {κ : Kind} {sp : Space} {s : Shape} {e : EltTy} (v : View sig κ sp s e) (f)
    {P : s.Idx → Prop} {G : s.Idx → Elt Ideal e} {L : List (View.Piece (Elt Ideal) s e)} (hL : Good P G L) (hP : ∀ y, P y) :
    v.read (Elt Ideal) (v.writes (Elt Ideal) f L) = G := funext fun y => hL.read v f y (hP y)

section
variable  (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty)

theorem v6_apply (z : Fin 1) (r : Fin 256) (l : Fin 128) : runB.sl.v6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 X16 (ix3 z r l) = (Gpm (arg4.view.read (Elt Ideal) X4) (arg12.view.read (Elt Ideal) X12)) (ix3 0 r l) := by
  unfold runB.sl.v6
  refine (readAt3 _ _ 0 _ rfl _ z r l).trans ?_
  exact (pb3 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 8 (le_refl 8)).2.read _ _ _ (by show r.val < 32 * 8; omega)

theorem v104_apply (z : Fin 1) (r : Fin 256) (l : Fin 128) : runB.sl.v104 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 X16 (ix3 z r l) = (Gpm (arg4.view.read (Elt Ideal) X4) (arg12.view.read (Elt Ideal) X12)) (ix3 1 r l) := by
  unfold runB.sl.v104
  refine (readAt3 _ _ 1 _ rfl _ z r l).trans ?_
  exact (pb3 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 8 (le_refl 8)).2.read _ _ _ (by show r.val < 32 * 8; omega)

theorem r_apply (r : Fin 256) : runB.sl.r (F := Ideal) arg5 X5 (ix2 0 r) = (arg5.view.read (Elt Ideal) X5) (ix2 0 r) := by
  unfold runB.sl.r
  rw [pay198_apply]
  exact congrFun (readAtF arg5.view X5 _) _

theorem good11 : Good (fun _ => True) (Gsc (Gpm (arg4.view.read (Elt Ideal) X4) (arg12.view.read (Elt Ideal) X12)) (arg5.view.read (Elt Ideal) X5)) (runB.sl.H11_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) := by
  refine good2 _ _ _ _ _ (fun z r => ?_) (fun z r => ?_)
  · refine (pay206_apply _ _ z r).trans ?_
    simp only [v6_apply]
    rw [readAtF]
    rfl
  · refine (pay215_apply _ _ z r).trans ?_
    simp only [v104_apply, r_apply]
    rfl

theorem good17 : Good (fun _ => True) (Gg (Gpm (arg4.view.read (Elt Ideal) X4) (arg12.view.read (Elt Ideal) X12)) (arg5.view.read (Elt Ideal) X5)) (runB.sl.H17_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) := by
  refine good3 _ _ _ _ _ (fun z r l => ?_) (fun z r l => ?_)
  · refine (pay207_apply _ _ _ z r l).trans ?_
    simp only [v6_apply, r_apply]
    rw [readAtF]
    rfl
  · refine (pay216_apply _ _ _ z r l).trans ?_
    simp only [v104_apply, r_apply]
    rfl

/-- The pieces stored into the codes of the weight. -/
def L10 : List (View.Piece (Elt Ideal) S2x256x2304 .fp8e4m3) := (pb_k0_t4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runB.sl.r arg5 X5) (runB.sl.r_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (runB.sl.r_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (runB.sl.r_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (runB.sl.r_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (runB.sl.r_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (arg15.view.writes (Elt Ideal) X15 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 (Scf.trips k0_t3_loop.lb k0_t3_loop.ub k0_t3_loop.st)).1) (arg17.view.writes (Elt Ideal) arg17.view.junk (runB.sl.H17_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16)) (Scf.trips k0_t4_loop.lb k0_t4_loop.ub k0_t4_loop.st))

theorem good10 : Good (fun y => (y 1).val < 256) (Gq (Gt (arg4.view.read (Elt Ideal) X4) (arg12.view.read (Elt Ideal) X12)) (Gg (Gpm (arg4.view.read (Elt Ideal) X4) (arg12.view.read (Elt Ideal) X12)) (arg5.view.read (Elt Ideal) X5))) (L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X15 X16) := by
  have e1 : arg15.view.read (Elt Ideal) (arg15.view.writes (Elt Ideal) X15 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 (Scf.trips k0_t3_loop.lb k0_t3_loop.ub k0_t3_loop.st)).1) = Gt (arg4.view.read (Elt Ideal) X4) (arg12.view.read (Elt Ideal) X12) :=
    Good.reads _ _ (pb3 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X12 8 (le_refl 8)).1 (fun y => by have : (y 1).val < 256 := (y 1).isLt; show (y 1).val < 32 * 8; omega)
  have e2 : arg17.view.read (Elt Ideal) (arg17.view.writes (Elt Ideal) arg17.view.junk (runB.sl.H17_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16)) = Gg (Gpm (arg4.view.read (Elt Ideal) X4) (arg12.view.read (Elt Ideal) X12)) (arg5.view.read (Elt Ideal) X5) :=
    Good.reads _ _ (good17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (fun _ => trivial)
  rw [← e1, ← e2]
  exact (pb4 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ 8 (le_refl 8)).weaken (fun y h => h)

/-- The pieces stored into the result. -/
def L7 : List (View.Piece (Elt Ideal) S2x128x256 .bf16) := [⟨Rect.unit (s := S2x128x256) ![1, 0, 0] ![1, 128, 256] inb_S2x128x256_S1x128x256_1_0_0, k0_pay1 (F := Ideal) (runB.sl.r_13 (F := Ideal) arg4 arg5 arg14 X4 X5 X14) (runB.sl.r_14 (F := Ideal) arg6 X6)
      (View.readAt (Elt Ideal) arg8.view (Rect.unit (s := S2x128x2304) ![1, 0, 0] ![1, 128, 2304] inb_S2x128x2304_S1x128x2304_1_0_0).toLoadRect X8)
      (runB.sl.v245 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X10 X12 X15 X16)
      (View.readAt (Elt Ideal) arg13.view (Rect.unit (s := S2x128x128) ![1, 0, 0] ![1, 128, 128] inb_S2x128x128_S1x128x128_1_0_0).toLoadRect X13)
      (runB.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16)⟩,
    ⟨Rect.unit (s := S2x128x256) ![0, 0, 0] ![1, 128, 256] inb_S2x128x256_S1x128x256_0_0_0, k0_pay219 (F := Ideal) (runB.sl.r arg5 X5) (runB.sl.r_12 (F := Ideal) arg14 X14)
      (View.readAt (Elt Ideal) arg4.view (Rect.unit (s := S256x2304) ![0, 0] ![256, 2304] inb_S256x2304_S256x2304_0_0).toLoadRect X4)
      (View.readAt (Elt Ideal) arg6.view (Rect.unit (s := S1x256) ![0, 0] ![1, 256] inb_S1x256_S1x256_0_0).toLoadRect X6)
      (View.readAt (Elt Ideal) arg8.view (Rect.unit (s := S2x128x2304) ![0, 0, 0] ![1, 128, 2304] inb_S2x128x2304_S1x128x2304_0_0_0).toLoadRect X8)
      (runB.sl.v217 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X10 X12 X15 X16)
      (View.readAt (Elt Ideal) arg13.view (Rect.unit (s := S2x128x128) ![0, 0, 0] ![1, 128, 128] inb_S2x128x128_S1x128x128_0_0_0).toLoadRect X13)
      (runB.sl.v224 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16)⟩]

theorem v217_apply (z : Fin 1) (r : Fin 256) (k : Fin 2304) : runB.sl.v217 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X10 X12 X15 X16 (ix3 z r k) = (Gq (Gt (arg4.view.read (Elt Ideal) X4) (arg12.view.read (Elt Ideal) X12)) (Gg (Gpm (arg4.view.read (Elt Ideal) X4) (arg12.view.read (Elt Ideal) X12)) (arg5.view.read (Elt Ideal) X5))) (ix3 0 r k) := by
  unfold runB.sl.v217
  refine (readAt3 _ _ 0 _ rfl _ z r k).trans ?_
  exact (good10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X15 X16).read _ _ _ r.isLt

theorem v245_apply (z : Fin 1) (r : Fin 256) (k : Fin 2304) : runB.sl.v245 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X10 X12 X15 X16 (ix3 z r k) = (Gq (Gt (arg4.view.read (Elt Ideal) X4) (arg12.view.read (Elt Ideal) X12)) (Gg (Gpm (arg4.view.read (Elt Ideal) X4) (arg12.view.read (Elt Ideal) X12)) (arg5.view.read (Elt Ideal) X5))) (ix3 1 r k) := by
  unfold runB.sl.v245
  refine (readAt3 _ _ 1 _ rfl _ z r k).trans ?_
  exact (good10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X15 X16).read _ _ _ r.isLt

theorem v224_apply (z : Fin 1) (r : Fin 256) : runB.sl.v224 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16 (ix2 z r) = Gsc (Gpm (arg4.view.read (Elt Ideal) X4) (arg12.view.read (Elt Ideal) X12)) (arg5.view.read (Elt Ideal) X5) (ix2 0 r) := by
  unfold runB.sl.v224 View.readCov
  refine (readAt2 _ _ 0 _ rfl _ z r).trans ?_
  exact (good11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16).read _ _ _ trivial

theorem v252_apply (z : Fin 1) (r : Fin 256) : runB.sl.v252 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16 (ix2 z r) = Gsc (Gpm (arg4.view.read (Elt Ideal) X4) (arg12.view.read (Elt Ideal) X12)) (arg5.view.read (Elt Ideal) X5) (ix2 1 r) := by
  unfold runB.sl.v252 View.readCov
  refine (readAt2 _ _ 1 _ rfl _ z r).trans ?_
  exact (good11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16).read _ _ _ trivial

theorem good7 : Good (fun _ => True) (Gy (arg8.view.read (Elt Ideal) X8) (Gq (Gt (arg4.view.read (Elt Ideal) X4) (arg12.view.read (Elt Ideal) X12)) (Gg (Gpm (arg4.view.read (Elt Ideal) X4) (arg12.view.read (Elt Ideal) X12)) (arg5.view.read (Elt Ideal) X5))) (arg13.view.read (Elt Ideal) X13) (Gsc (Gpm (arg4.view.read (Elt Ideal) X4) (arg12.view.read (Elt Ideal) X12)) (arg5.view.read (Elt Ideal) X5)) (arg14.view.read (Elt Ideal) X14) (arg4.view.read (Elt Ideal) X4) (arg5.view.read (Elt Ideal) X5) (arg6.view.read (Elt Ideal) X6)) (L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X6 X8 X10 X12 X13 X14 X15 X16) := by
  refine good3 _ _ _ _ _ (fun z s r => ?_) (fun z s r => ?_)
  · refine (pay219_apply _ _ _ _ _ _ _ _ z s r).trans ?_
    have e8 : ∀ s k, View.readAt (Elt Ideal) arg8.view (Rect.unit (s := S2x128x2304) ![0, 0, 0] ![1, 128, 2304] inb_S2x128x2304_S1x128x2304_0_0_0).toLoadRect X8 (ix3 0 s k) = arg8.view.read (Elt Ideal) X8 (ix3 0 s k) := fun s k => readAt3 _ _ 0 _ rfl _ 0 s k
    have e13 : ∀ s k, View.readAt (Elt Ideal) arg13.view (Rect.unit (s := S2x128x128) ![0, 0, 0] ![1, 128, 128] inb_S2x128x128_S1x128x128_0_0_0).toLoadRect X13 (ix3 0 s k) = arg13.view.read (Elt Ideal) X13 (ix3 0 s k) := fun s k => readAt3 _ _ 0 _ rfl _ 0 s k
    simp only [e8, e13, v217_apply, v224_apply, r_apply]
    unfold runB.sl.r_12
    rw [readAtF, readAtF, readAtF]
    rfl
  · refine (pay1_apply _ _ _ _ _ _ z s r).trans ?_
    have e8 : ∀ s k, View.readAt (Elt Ideal) arg8.view (Rect.unit (s := S2x128x2304) ![1, 0, 0] ![1, 128, 2304] inb_S2x128x2304_S1x128x2304_1_0_0).toLoadRect X8 (ix3 0 s k) = arg8.view.read (Elt Ideal) X8 (ix3 1 s k) := fun s k => readAt3 _ _ 1 _ rfl _ 0 s k
    have e13 : ∀ s k, View.readAt (Elt Ideal) arg13.view (Rect.unit (s := S2x128x128) ![1, 0, 0] ![1, 128, 128] inb_S2x128x128_S1x128x128_1_0_0).toLoadRect X13 (ix3 0 s k) = arg13.view.read (Elt Ideal) X13 (ix3 1 s k) := fun s k => readAt3 _ _ 1 _ rfl _ 0 s k
    simp only [e8, e13, v245_apply, v252_apply, r_apply]
    unfold runB.sl.r_13 runB.sl.r_14 runB.sl.r_12
    rw [pay220_apply, r_apply, readAtF, readAtF, readAtF]
    rfl

end

end Cert.KernelIdeal.Val

end
-- ==== Proof.VOut.lean ====
/- What each buffer of the kernel's body ends with, in closed form, on the extended reals. -/
module

public import proofs.«01_k».proof.Proof.VRun
public import proofs.«01_k».proof.Proof.KRunA
public import proofs.«01_k».proof.Proof.MScale
public import Idealize.ShloMosaic.Lib.Pointwise

@[expose] public section

set_option maxRecDepth 16384

noncomputable section

namespace Cert.KernelIdeal.Val

open Idealize.ShloMosaic Idealize.ShloMosaic.TcCoe
open Cert.KernelIdeal Cert.KernelIdeal.Gen

open Cert.Math

/-- The modulation, one row on eight sublanes. -/
def GM (ms : S2x2304.Idx → EReal) : S2x8x2304.Idx → EReal := fun j => Ideal.ofBits .f32 0x3F800000#32 + ms (ix2 (j 0) (j 2))

/-- The scales of the activations, as they are stored. -/
def Ghs2 (X : S2x128x2304.Idx → EReal) : S2x128.Idx → EReal := fun j => Ghs X (ix3 (j 0) (j 1) 0)

theorem goodF {A B : ℕ} {e : EltTy} (G : (⟨2, ![A, B]⟩ : Shape).Idx → Elt Ideal e) (h)
    (w : Vec Ideal ⟨2, ![A, B]⟩ e) (e0 : ∀ r l, w (ix2 r l) = G (ix2 r l)) :
    Good (fun _ => True) G [⟨Rect.unit (s := ⟨2, ![A, B]⟩) ![0, 0] ![A, B] h, w⟩] := by
  have em : ∀ (r : Fin A) (l : Fin B), (Rect.unit (s := ⟨2, ![A, B]⟩) ![0, 0] ![A, B] h).emb (ix2 r l) = ix2 r l := by
    intro r l
    funext a; apply Fin.ext; fin_cases a <;> simp [Rect.unit, Rect.emb]
  refine ⟨List.forall_mem_cons.2 ⟨fun (x : (⟨2, ![A, B]⟩ : Shape).Idx) => ?_, fun p hp => absurd hp List.not_mem_nil⟩, fun y _ => ?_⟩
  · obtain ⟨x0, x1, rfl⟩ := ex2 x
    exact (e0 _ _).trans (congrArg G (em _ _)).symm
  · obtain ⟨y0, y1, rfl⟩ := ex2 y
    refine ⟨_, List.mem_of_getElem? (i := 0) rfl, ?_⟩
    rw [Rect.mem_set_unit]; intro a
    fin_cases a
    · exact ⟨Nat.zero_le _, (by show y0.val < 0 + A; omega)⟩
    · exact ⟨Nat.zero_le _, (by show y1.val < 0 + B; omega)⟩

section
variable  (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : ¬cond0_0 i)     (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty)

theorem runB_7 : arg7.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).1 = (Gy (arg8.view.read (Elt Ideal) X8) (Gq (Gt (arg4.view.read (Elt Ideal) X4) (arg12.view.read (Elt Ideal) X12)) (Gg (Gpm (arg4.view.read (Elt Ideal) X4) (arg12.view.read (Elt Ideal) X12)) (arg5.view.read (Elt Ideal) X5))) (arg13.view.read (Elt Ideal) X13) (Gsc (Gpm (arg4.view.read (Elt Ideal) X4) (arg12.view.read (Elt Ideal) X12)) (arg5.view.read (Elt Ideal) X5)) (arg14.view.read (Elt Ideal) X14) (arg4.view.read (Elt Ideal) X4) (arg5.view.read (Elt Ideal) X5) (arg6.view.read (Elt Ideal) X6)) := by
  have e : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).1 = arg7.view.writes (Elt Ideal) X7 (L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X6 X8 X10 X12 X13 X14 X15 X16) := by
    dsimp only [runB]
    unfold L7
    rfl
  rw [e]
  exact Good.reads arg7.view X7 (good7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X6 X8 X10 X12 X13 X14 X15 X16) (fun _ => trivial)

theorem runB_10 : arg10.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.1 = (Gq (Gt (arg4.view.read (Elt Ideal) X4) (arg12.view.read (Elt Ideal) X12)) (Gg (Gpm (arg4.view.read (Elt Ideal) X4) (arg12.view.read (Elt Ideal) X12)) (arg5.view.read (Elt Ideal) X5))) := by
  have e : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.1 = arg10.view.writes (Elt Ideal) X10 (L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X15 X16) := by
    dsimp only [runB]
    unfold L10
    rfl
  rw [e]
  exact Good.reads arg10.view X10 (good10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X15 X16) (fun y => (y 1).isLt)

theorem runB_11 : arg11.view.read (Elt Ideal) (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.val = (Gsc (Gpm (arg4.view.read (Elt Ideal) X4) (arg12.view.read (Elt Ideal) X12)) (arg5.view.read (Elt Ideal) X5)) := by
  have e : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.val = arg11.view.writes (Elt Ideal) arg11.view.junk (runB.sl.H11_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) := by
    dsimp only [runB]
  rw [e]
  exact Good.reads arg11.view arg11.view.junk (good11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X12 X16) (fun _ => trivial)

end

section
variable  (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)     (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty)

theorem a8 : arg8.view.read (Elt Ideal) (arg8.view.writes (Elt Ideal) X8 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).1 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).1)) = Gh (arg1.view.read (Elt Ideal) X1) := by
  have h : Good (fun _ => True) (Gh (arg1.view.read (Elt Ideal) X1)) ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).1 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).1) := by
    refine ((pb2 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 4 (le_refl 4)).1).append ((pb1 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 4 (le_refl 4)).1) (fun y _ => ?_)
    have h0 : (y 0).val < 2 := (y 0).isLt
    have h1 : (y 1).val < 128 := (y 1).isLt
    dsimp only
    omega
  exact Good.reads _ _ h (fun _ => trivial)

theorem a13 : arg13.view.read (Elt Ideal) (arg13.view.writes (Elt Ideal) X13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).2 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).2)) = Ghs (arg1.view.read (Elt Ideal) X1) := by
  have h : Good (fun _ => True) (Ghs (arg1.view.read (Elt Ideal) X1)) ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).2 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).2) := by
    refine ((pb2 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 4 (le_refl 4)).2).append ((pb1 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 4 (le_refl 4)).2) (fun y _ => ?_)
    have h0 : (y 0).val < 2 := (y 0).isLt
    have h1 : (y 1).val < 128 := (y 1).isLt
    dsimp only
    omega
  exact Good.reads _ _ h (fun _ => trivial)

theorem a12 : arg12.view.read (Elt Ideal) (arg12.view.writes (Elt Ideal) arg12.view.junk (runA.sl.H12_2 (F := Ideal) arg2 X2)) = (GM (arg2.view.read (Elt Ideal) X2)) := by
  refine Good.reads _ _ (good3 _ _ _ _ _ (fun z r l => ?_) (fun z r l => ?_)) (fun _ => trivial)
  · refine (pay14_apply _ z r l).trans ?_
    exact congrArg _ (readAt2 arg2.view X2 0 _ rfl _ 0 l)
  · refine (pay14_apply _ z r l).trans ?_
    exact congrArg _ (readAt2 arg2.view X2 1 _ rfl _ 0 l)

theorem a14 : arg14.view.read (Elt Ideal) (arg14.view.writes (Elt Ideal) arg14.view.junk (runA.sl.H14_1 (F := Ideal) arg3 X3)) = Gsh (arg3.view.read (Elt Ideal) X3) := by
  refine Good.reads _ _ (goodF _ _ _ (fun r l => ?_)) (fun _ => trivial)
  refine (pay193_apply _ r l).trans ?_
  rw [readAtF]

theorem a9 : Good (fun _ => True) (Ghs2 (arg1.view.read (Elt Ideal) X1)) (runA.sl.H9_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X13) := by
  refine good2 _ _ _ _ _ (fun z r => ?_) (fun z r => ?_)
  · refine (pay18_apply _ z r).trans ?_
    refine (readAt3 arg13.view _ 0 _ rfl _ 0 r 0).trans ?_
    exact (pb1 c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 4 (le_refl 4)).2.read _ _ _ ⟨rfl, r.isLt⟩
  · refine (pay18_apply _ z r).trans ?_
    refine (readAt3 arg13.view _ 1 _ rfl _ 0 r 0).trans ?_
    exact congrFun (a13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X13) _

theorem runA_7 : arg7.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).1 = (Gy (Gh (arg1.view.read (Elt Ideal) X1)) (Gq (Gt (arg4.view.read (Elt Ideal) X4) (GM (arg2.view.read (Elt Ideal) X2))) (Gg (Gpm (arg4.view.read (Elt Ideal) X4) (GM (arg2.view.read (Elt Ideal) X2))) (arg5.view.read (Elt Ideal) X5))) (Ghs (arg1.view.read (Elt Ideal) X1)) (Gsc (Gpm (arg4.view.read (Elt Ideal) X4) (GM (arg2.view.read (Elt Ideal) X2))) (arg5.view.read (Elt Ideal) X5)) (Gsh (arg3.view.read (Elt Ideal) X3)) (arg4.view.read (Elt Ideal) X4) (arg5.view.read (Elt Ideal) X5) (arg6.view.read (Elt Ideal) X6)) := by
  have h := good7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X6 (arg8.view.writes (Elt Ideal) X8 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).1 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).1)) X10 (arg12.view.writes (Elt Ideal) arg12.view.junk (runA.sl.H12_2 (F := Ideal) arg2 X2)) (arg13.view.writes (Elt Ideal) X13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).2 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).2)) (arg14.view.writes (Elt Ideal) arg14.view.junk (runA.sl.H14_1 (F := Ideal) arg3 X3)) X15 X16
  rw [a8, a12, a13, a14] at h
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).1 = arg7.view.writes (Elt Ideal) X7 (L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X6 (arg8.view.writes (Elt Ideal) X8 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).1 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).1)) X10 (arg12.view.writes (Elt Ideal) arg12.view.junk (runA.sl.H12_2 (F := Ideal) arg2 X2)) (arg13.view.writes (Elt Ideal) X13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).2 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).2)) (arg14.view.writes (Elt Ideal) arg14.view.junk (runA.sl.H14_1 (F := Ideal) arg3 X3)) X15 X16) := by
    dsimp only [runA]
    unfold L7
    rfl
  rw [e]
  exact Good.reads arg7.view X7 h (fun _ => trivial)

theorem runA_8 : arg8.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.1 = Gh (arg1.view.read (Elt Ideal) X1) := by
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.1 = (arg8.view.writes (Elt Ideal) X8 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).1 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).1)) := by
    dsimp only [runA]
  rw [e]
  exact a8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X8

theorem runA_9 : arg9.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.1 = Ghs2 (arg1.view.read (Elt Ideal) X1) := by
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.1 = arg9.view.writes (Elt Ideal) arg9.view.junk (runA.sl.H9_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X13) := by
    dsimp only [runA]
  rw [e]
  exact Good.reads arg9.view arg9.view.junk (a9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X13) (fun _ => trivial)

theorem runA_10 : arg10.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.1 = (Gq (Gt (arg4.view.read (Elt Ideal) X4) (GM (arg2.view.read (Elt Ideal) X2))) (Gg (Gpm (arg4.view.read (Elt Ideal) X4) (GM (arg2.view.read (Elt Ideal) X2))) (arg5.view.read (Elt Ideal) X5))) := by
  have h := good10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 (arg12.view.writes (Elt Ideal) arg12.view.junk (runA.sl.H12_2 (F := Ideal) arg2 X2)) X15 X16
  rw [a12] at h
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.1 = arg10.view.writes (Elt Ideal) X10 (L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 (arg12.view.writes (Elt Ideal) arg12.view.junk (runA.sl.H12_2 (F := Ideal) arg2 X2)) X15 X16) := by
    dsimp only [runA]
    unfold L10
    rfl
  rw [e]
  exact Good.reads arg10.view X10 h (fun y => (y 1).isLt)

theorem runA_11 : arg11.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.1 = (Gsc (Gpm (arg4.view.read (Elt Ideal) X4) (GM (arg2.view.read (Elt Ideal) X2))) (arg5.view.read (Elt Ideal) X5)) := by
  have h := good11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 (arg12.view.writes (Elt Ideal) arg12.view.junk (runA.sl.H12_2 (F := Ideal) arg2 X2)) X16
  rw [a12] at h
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.1 = arg11.view.writes (Elt Ideal) arg11.view.junk (runB.sl.H11_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 (arg12.view.writes (Elt Ideal) arg12.view.junk (runA.sl.H12_2 (F := Ideal) arg2 X2)) X16) := by
    dsimp only [runA]
    rfl
  rw [e]
  exact Good.reads arg11.view arg11.view.junk h (fun _ => trivial)

theorem runA_12 : arg12.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.1 = (GM (arg2.view.read (Elt Ideal) X2)) := by
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.1 = (arg12.view.writes (Elt Ideal) arg12.view.junk (runA.sl.H12_2 (F := Ideal) arg2 X2)) := by
    dsimp only [runA]
  rw [e]
  exact a12 arg2 arg12 X2

theorem runA_13 : arg13.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.2.1 = Ghs (arg1.view.read (Elt Ideal) X1) := by
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.2.1 = (arg13.view.writes (Elt Ideal) X13 ((pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t2_loop.lb k0_t2_loop.ub k0_t2_loop.st)).2 ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 (Scf.trips k0_t1_loop.lb k0_t1_loop.ub k0_t1_loop.st)).2)) := by
    dsimp only [runA]
  rw [e]
  exact a13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X13

theorem runA_14 : arg14.view.read (Elt Ideal) (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.2.2.val = Gsh (arg3.view.read (Elt Ideal) X3) := by
  have e : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.2.2.val = (arg14.view.writes (Elt Ideal) arg14.view.junk (runA.sl.H14_1 (F := Ideal) arg3 X3)) := by
    dsimp only [runA]
  rw [e]
  exact a14 arg3 arg14 X3

end

end Cert.KernelIdeal.Val

end
-- ==== Proof.KTriple.lean ====
/- What one point of the kernel does, as triples over the contents of its buffers. -/
module

public import proofs.«01_k».proof.Proof.VOut

@[expose] public section

set_option maxRecDepth 16384

noncomputable section

namespace Cert.KernelIdeal.Val

open Cert.KernelIdeal Cert.KernelIdeal.Gen
open Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The first point, at any buffers: it fills all five outputs and the three scratches the later points read. -/
theorem kernelA (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : cond0_0 i)
    (x1 : S2x128x2304.Idx → EReal) (x2 x3 : S2x2304.Idx → EReal) (x4 : S256x2304.Idx → EReal) (x5 x6 : S1x256.Idx → EReal)
    (x8 : S2x128x2304.Idx → EReal) (x9 : S2x128.Idx → EReal) (x12 : S2x8x2304.Idx → EReal) (x13 : S2x128x128.Idx → EReal) (x14 : S16x2304.Idx → EReal)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Gy (Gh x1) (Gq (Gt x4 (GM x2)) (Gg (Gpm x4 (GM x2)) x5)) (Ghs x1) (Gsc (Gpm x4 (GM x2)) x5) (Gsh x3) x4 x5 x6) ∗ owns (c : Thread nD τ) arg8 fullShare (Gh x1) ∗ owns (c : Thread nD τ) arg9 fullShare (Ghs2 x1) ∗ owns (c : Thread nD τ) arg10 fullShare (Gq (Gt x4 (GM x2)) (Gg (Gpm x4 (GM x2)) x5)) ∗ owns (c : Thread nD τ) arg11 fullShare (Gsc (Gpm x4 (GM x2)) x5) ∗ owns (c : Thread nD τ) arg12 fullShare (GM x2) ∗ owns (c : Thread nD τ) arg13 fullShare (Ghs x1) ∗ owns (c : Thread nD τ) arg14 fullShare (Gsh x3) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := Ideal)) Variants.none c none) E (cc0_adaln_requant (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%d7, %X7, %e7, H7⟩, ⟨%d8, %X8, %e8, H8⟩, ⟨%d9, %X9, %e9, H9⟩, ⟨%d10, %X10, %e10, H10⟩, ⟨%d11, %X11, %e11, H11⟩, ⟨%d12, %X12, %e12, H12⟩, ⟨%d13, %X13, %e13, H13⟩, ⟨%d14, %X14, %e14, H14⟩, ⟨%d15, %X15, %e15, H15⟩, ⟨%d16, %X16, %e16, H16⟩, ⟨%d17, %X17, %e17, H17⟩, Hk⟩
  subst e1; subst e2; subst e3; subst e4; subst e5; subst e6; subst e7; subst e8; subst e9; subst e10; subst e11; subst e12; subst e13; subst e14; subst e15; subst e16; subst e17
  iapply ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2.2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f15, H15⟩, ⟨%f16, H16⟩, ⟨%f17, H17⟩⟩
  iapply Hk
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact runA_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H8]
  · iexists _; isplitr
    swap; · iexact H8
    ipureintro; exact runA_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H9]
  · iexists _; isplitr
    swap; · iexact H9
    ipureintro; exact runA_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H10]
  · iexists _; isplitr
    swap; · iexact H10
    ipureintro; exact runA_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H11]
  · iexists _; isplitr
    swap; · iexact H11
    ipureintro; exact runA_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H12]
  · iexists _; isplitr
    swap; · iexact H12
    ipureintro; exact runA_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H13]
  · iexists _; isplitr
    swap; · iexact H13
    ipureintro; exact runA_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H14]
  · iexists _; isplitr
    swap; · iexact H14
    ipureintro; exact runA_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H15]
  · iexists _, _; isplitr
    swap; · iexact H15
    ipureintro; exact rfl
  isplitl [H16]
  · iexists _, _; isplitr
    swap; · iexact H16
    ipureintro; exact rfl
  iexists _, _; isplitr
  swap; · iexact H17
  ipureintro; exact rfl

set_option maxHeartbeats 4000000 in
/-- A later point: it fills the output, the weight codes and their scales, from the scratches as it finds them. -/
theorem kernelB (c : Dev nD) (i : grid0.Coords) (arg1 : Memref sig .tc .vmem S2x128x2304 .bf16) (harg1 : arg1.IsWhole) (arg2 : Memref sig .tc .vmem S2x2304 .f32) (harg2 : arg2.IsWhole) (arg3 : Memref sig .tc .vmem S2x2304 .f32) (harg3 : arg3.IsWhole) (arg4 : Memref sig .tc .vmem S256x2304 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S2x128x256 .bf16) (harg7 : arg7.IsWhole) (arg8 : Memref sig .tc .vmem S2x128x2304 .fp8e4m3) (harg8 : arg8.IsWhole) (arg9 : Memref sig .tc .vmem S2x128 .f32) (harg9 : arg9.IsWhole) (arg10 : Memref sig .tc .vmem S2x256x2304 .fp8e4m3) (harg10 : arg10.IsWhole) (arg11 : Memref sig .tc .vmem S2x256 .f32) (harg11 : arg11.IsWhole) (arg12 : Memref sig .tc .vmem S2x8x2304 .f32) (harg12 : arg12.IsWhole) (arg13 : Memref sig .tc .vmem S2x128x128 .f32) (harg13 : arg13.IsWhole) (arg14 : Memref sig .tc .vmem S16x2304 .bf16) (harg14 : arg14.IsWhole) (arg15 : Memref sig .tc .vmem S2x256x2304 .f32) (harg15 : arg15.IsWhole) (arg16 : Memref sig .tc .vmem S2x256x128 .f32) (harg16 : arg16.IsWhole) (arg17 : Memref sig .tc .vmem S2x256x128 .f32) (harg17 : arg17.IsWhole) (hc0 : ¬cond0_0 i)
    (x1 : S2x128x2304.Idx → EReal) (x2 x3 : S2x2304.Idx → EReal) (x4 : S256x2304.Idx → EReal) (x5 x6 : S1x256.Idx → EReal)
    (x8 : S2x128x2304.Idx → EReal) (x9 : S2x128.Idx → EReal) (x12 : S2x8x2304.Idx → EReal) (x13 : S2x128x128.Idx → EReal) (x14 : S16x2304.Idx → EReal)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Gy x8 (Gq (Gt x4 x12) (Gg (Gpm x4 x12) x5)) x13 (Gsc (Gpm x4 x12) x5) x14 x4 x5 x6) ∗ owns (c : Thread nD τ) arg8 fullShare x8 ∗ owns (c : Thread nD τ) arg9 fullShare x9 ∗ owns (c : Thread nD τ) arg10 fullShare (Gq (Gt x4 x12) (Gg (Gpm x4 x12) x5)) ∗ owns (c : Thread nD τ) arg11 fullShare (Gsc (Gpm x4 x12) x5) ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := Ideal)) Variants.none c none) E (cc0_adaln_requant (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%X1, %e1, H1⟩, ⟨%X2, %e2, H2⟩, ⟨%X3, %e3, H3⟩, ⟨%X4, %e4, H4⟩, ⟨%X5, %e5, H5⟩, ⟨%X6, %e6, H6⟩, ⟨%d7, %X7, %e7, H7⟩, ⟨%X8, %e8, H8⟩, ⟨%X9, %e9, H9⟩, ⟨%d10, %X10, %e10, H10⟩, ⟨%d11, %X11, %e11, H11⟩, ⟨%X12, %e12, H12⟩, ⟨%X13, %e13, H13⟩, ⟨%X14, %e14, H14⟩, ⟨%d15, %X15, %e15, H15⟩, ⟨%d16, %X16, %e16, H16⟩, ⟨%d17, %X17, %e17, H17⟩, Hk⟩
  subst e1; subst e2; subst e3; subst e4; subst e5; subst e6; subst e7; subst e8; subst e9; subst e10; subst e11; subst e12; subst e13; subst e14; subst e15; subst e16; subst e17
  iapply ((runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f15, H15⟩, ⟨%f16, H16⟩, ⟨%f17, H17⟩⟩
  iapply Hk
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact runB_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H8]
  · iexists _; isplitr
    swap; · iexact H8
    ipureintro; exact rfl
  isplitl [H9]
  · iexists _; isplitr
    swap; · iexact H9
    ipureintro; exact rfl
  isplitl [H10]
  · iexists _; isplitr
    swap; · iexact H10
    ipureintro; exact runB_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H11]
  · iexists _; isplitr
    swap; · iexact H11
    ipureintro; exact runB_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 X1 X2 X3 X4 X5 X6 X7 X8 X9 X10 X11 X12 X13 X14 X15 X16 X17
  isplitl [H12]
  · iexists _; isplitr
    swap; · iexact H12
    ipureintro; exact rfl
  isplitl [H13]
  · iexists _; isplitr
    swap; · iexact H13
    ipureintro; exact rfl
  isplitl [H14]
  · iexists _; isplitr
    swap; · iexact H14
    ipureintro; exact rfl
  isplitl [H15]
  · iexists _, _; isplitr
    swap; · iexact H15
    ipureintro; exact rfl
  isplitl [H16]
  · iexists _, _; isplitr
    swap; · iexact H16
    ipureintro; exact rfl
  iexists _, _; isplitr
  swap; · iexact H17
  ipureintro; exact rfl

end Cert.KernelIdeal.Val

end
-- ==== Proof.KFrame.lean ====
/- The contents of the kernel's buffers point by point, and its run. -/
module

public import proofs.«01_k».proof.Proof.KTriple

@[expose] public section

set_option maxRecDepth 16384

noncomputable section

namespace Cert.KernelIdeal.Val

open Cert.KernelIdeal Cert.KernelIdeal.Gen
open Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first point of the grid. -/
abbrev t0 : Fin cfg0.N := ⟨0, by rw [show cfg0.N = 36 from N_0]; decide⟩

/-- The blocks of the six arguments at a point, by the names of their shapes. -/
abbrev bX (c : Dev nD) : S2x128x2304.Idx → EReal := iblk m c 0 t0
abbrev bM (c : Dev nD) : S2x8x2304.Idx → EReal := GM (iblk m c 1 t0)
abbrev bS (c : Dev nD) : S2x2304.Idx → EReal := iblk m c 2 t0
abbrev bW (c : Dev nD) (t : Fin cfg0.N) : S256x2304.Idx → EReal := iblk m c 3 t
abbrev bws (c : Dev nD) (t : Fin cfg0.N) : S1x256.Idx → EReal := iblk m c 4 t
abbrev bbo (c : Dev nD) (t : Fin cfg0.N) : S1x256.Idx → EReal := iblk m c 5 t
/-- The weight codes, their scales and the output of a point. -/
def oWC (c : Dev nD) (t : Fin cfg0.N) : S2x256x2304.Idx → EReal := Gq (Gt (bW m c t) (bM m c)) (Gg (Gpm (bW m c t) (bM m c)) (bws m c t))
def oSC (c : Dev nD) (t : Fin cfg0.N) : S2x256.Idx → EReal := Gsc (Gpm (bW m c t) (bM m c)) (bws m c t)
def oY (c : Dev nD) (t : Fin cfg0.N) : S2x128x256.Idx → EReal :=
  Gy (Gh (bX m c)) (oWC m c t) (Ghs (bX m c)) (oSC m c t) (Gsh (bS m c)) (bW m c t) (bws m c t) (bbo m c t)

/-- The scratches between points: anything before the first, then what the first point left. -/
def PhiS (c : Dev nD) : (n : ℕ) → n ≤ cfg0.N → sProp 𝕄
  | 0, _ => Pipeline.ΦA spec0 c
  | n + 1, hn => iprop(iprop(owns (c : Thread nD τ) scM0_0 fullShare (bM m c) ∗ owns (c : Thread nD τ) scM0_1 fullShare (Ghs (bX m c)) ∗ owns (c : Thread nD τ) scM0_2 fullShare (Gsh (bS m c)) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM0_0 fullShare (bM m c) ∗ owns (c : Thread nD τ) scM0_1 fullShare (Ghs (bX m c)) ∗ owns (c : Thread nD τ) scM0_2 fullShare (Gsh (bS m c)) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oY m c t
    | ⟨7, _⟩ => Gh (bX m c)
    | ⟨8, _⟩ => Ghs2 (bX m c)
    | ⟨9, _⟩ => oWC m c t
    | ⟨10, _⟩ => oSC m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oY m c t := by dsimp only [dats]
theorem after0_7 (c : Dev nD) (t : Fin cfg0.N) : (dats m 0 c).after 7 t = Gh (bX m c) := by dsimp only [dats]
theorem after0_8 (c : Dev nD) (t : Fin cfg0.N) : (dats m 0 c).after 8 t = Ghs2 (bX m c) := by dsimp only [dats]
theorem after0_9 (c : Dev nD) (t : Fin cfg0.N) : (dats m 0 c).after 9 t = oWC m c t := by dsimp only [dats]
theorem after0_10 (c : Dev nD) (t : Fin cfg0.N) : (dats m 0 c).after 10 t = oSC m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem idleAt0_7 (t : Fin cfg0.N) (h : t.val ≠ 0) : cfg0.idle 7 (grid0.coords t) = true := by
  have hN : t.val < 36 := lt_of_lt_of_eq t.isLt (show cfg0.N = 36 from N_0)
  have e : ¬ cond0_0 (grid0.coords t) := fun hc => by have := (hcond0_0 t).mp hc; omega
  show (!(k0_cond1 (grid0.coords t) == 1#1)) = true
  rw [beq_false_of_ne e]; rfl

theorem liveAt0_7 (t : Fin cfg0.N) (h : t.val = 0) : cfg0.idle 7 (grid0.coords t) = false := by
  have e : cond0_0 (grid0.coords t) := (hcond0_0 t).mpr (by omega)
  show (!(k0_cond1 (grid0.coords t) == 1#1)) = false
  rw [show k0_cond1 (grid0.coords t) = 1#1 from e]; rfl

/-- Once the first point has filled it, the buffer keeps its contents. -/
theorem before0_7 (c : Dev nD) (n : ℕ) (hn : n < cfg0.N) (h : n ≠ 0) (d) : (dats m 0 c).before 7 ⟨n, hn⟩ d = Gh (bX m c) := by
  have hN : n < 36 := lt_of_lt_of_eq hn (show cfg0.N = 36 from N_0)
  induction n with
  | zero => exact absurd rfl h
  | succ n ih =>
    rw [Dat.before_of_pos _ _ _ h rfl d]
    have hf : ¬ (cfg0.win 7).flush ⟨n + 1 - 1, Nat.lt_of_le_of_lt (Nat.sub_le _ _) hn⟩ = true := fun hf => by
      have := (flush0_7 _).mp hf; simp only [Nat.add_sub_cancel] at this; omega
    rw [if_neg hf]
    unfold Dat.left
    by_cases hz : n = 0
    · rw [show cfg0.idle 7 (cfg0.grid.coords ⟨n + 1 - 1, Nat.lt_of_le_of_lt (Nat.sub_le _ _) hn⟩) = false from liveAt0_7 _ (by simpa using hz)]
      exact (show (dats m 0 c).kept 7 ⟨n + 1 - 1, Nat.lt_of_le_of_lt (Nat.sub_le _ _) hn⟩ d = (dats m 0 c).after 7 ⟨n + 1 - 1, Nat.lt_of_le_of_lt (Nat.sub_le _ _) hn⟩ from rfl).trans (after0_7 m c _)
    · rw [show cfg0.idle 7 (cfg0.grid.coords ⟨n + 1 - 1, Nat.lt_of_le_of_lt (Nat.sub_le _ _) hn⟩) = true from idleAt0_7 _ (by simpa using hz)]
      exact ih (by omega) hz (by omega)

theorem leaves0_7 (c : Dev nD) (t : Fin cfg0.N) :
    owns (c : Thread nD τ) (ms0_7 t) fullShare (Gh (bX m c)) ⊢ (dats m 0 c).leavesExact 7 t := by
  by_cases h : t.val = 0
  · unfold Dat.leavesExact
    rw [show cfg0.idle 7 (cfg0.grid.coords t) = false from liveAt0_7 t h, after0_7]
    try exact Idealize.SL.BI.Entails.refl _
  · unfold Dat.leavesExact
    rw [show cfg0.idle 7 (cfg0.grid.coords t) = true from idleAt0_7 t h]
    cases hf : (cfg0.win 7).flush t with
    | true =>
      dsimp only
      rw [after0_7]
      try exact Idealize.SL.BI.Entails.refl _
    | false =>
      dsimp only
      iintro H
      iexists (fun _ => (0 : EReal))
      rw [before0_7 m c t.val t.isLt h]
      iexact H

theorem idleAt0_8 (t : Fin cfg0.N) (h : t.val ≠ 0) : cfg0.idle 8 (grid0.coords t) = true := by
  have hN : t.val < 36 := lt_of_lt_of_eq t.isLt (show cfg0.N = 36 from N_0)
  have e : ¬ cond0_0 (grid0.coords t) := fun hc => by have := (hcond0_0 t).mp hc; omega
  show (!(k0_cond1 (grid0.coords t) == 1#1)) = true
  rw [beq_false_of_ne e]; rfl

theorem liveAt0_8 (t : Fin cfg0.N) (h : t.val = 0) : cfg0.idle 8 (grid0.coords t) = false := by
  have e : cond0_0 (grid0.coords t) := (hcond0_0 t).mpr (by omega)
  show (!(k0_cond1 (grid0.coords t) == 1#1)) = false
  rw [show k0_cond1 (grid0.coords t) = 1#1 from e]; rfl

/-- Once the first point has filled it, the buffer keeps its contents. -/
theorem before0_8 (c : Dev nD) (n : ℕ) (hn : n < cfg0.N) (h : n ≠ 0) (d) : (dats m 0 c).before 8 ⟨n, hn⟩ d = Ghs2 (bX m c) := by
  have hN : n < 36 := lt_of_lt_of_eq hn (show cfg0.N = 36 from N_0)
  induction n with
  | zero => exact absurd rfl h
  | succ n ih =>
    rw [Dat.before_of_pos _ _ _ h rfl d]
    have hf : ¬ (cfg0.win 8).flush ⟨n + 1 - 1, Nat.lt_of_le_of_lt (Nat.sub_le _ _) hn⟩ = true := fun hf => by
      have := (flush0_8 _).mp hf; simp only [Nat.add_sub_cancel] at this; omega
    rw [if_neg hf]
    unfold Dat.left
    by_cases hz : n = 0
    · rw [show cfg0.idle 8 (cfg0.grid.coords ⟨n + 1 - 1, Nat.lt_of_le_of_lt (Nat.sub_le _ _) hn⟩) = false from liveAt0_8 _ (by simpa using hz)]
      exact (show (dats m 0 c).kept 8 ⟨n + 1 - 1, Nat.lt_of_le_of_lt (Nat.sub_le _ _) hn⟩ d = (dats m 0 c).after 8 ⟨n + 1 - 1, Nat.lt_of_le_of_lt (Nat.sub_le _ _) hn⟩ from rfl).trans (after0_8 m c _)
    · rw [show cfg0.idle 8 (cfg0.grid.coords ⟨n + 1 - 1, Nat.lt_of_le_of_lt (Nat.sub_le _ _) hn⟩) = true from idleAt0_8 _ (by simpa using hz)]
      exact ih (by omega) hz (by omega)

theorem leaves0_8 (c : Dev nD) (t : Fin cfg0.N) :
    owns (c : Thread nD τ) (ms0_8 t) fullShare (Ghs2 (bX m c)) ⊢ (dats m 0 c).leavesExact 8 t := by
  by_cases h : t.val = 0
  · unfold Dat.leavesExact
    rw [show cfg0.idle 8 (cfg0.grid.coords t) = false from liveAt0_8 t h, after0_8]
    try exact Idealize.SL.BI.Entails.refl _
  · unfold Dat.leavesExact
    rw [show cfg0.idle 8 (cfg0.grid.coords t) = true from idleAt0_8 t h]
    cases hf : (cfg0.win 8).flush t with
    | true =>
      dsimp only
      rw [after0_8]
      try exact Idealize.SL.BI.Entails.refl _
    | false =>
      dsimp only
      iintro H
      iexists (fun _ => (0 : EReal))
      rw [before0_8 m c t.val t.isLt h]
      iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 12800000 in
/-- The body at any point takes what the points before left to what this point leaves. -/
theorem sound_body (c : Dev nD) (t : Fin cfg0.N) :
    bodyPre m c t ⊢ wp frame (wpE (defs₀ (F := Ideal)) Variants.none c none) Set.univ (bodyAt0 t) (fun _ => bodyPost m c t) := by
  have hN : t.val < 36 := lt_of_lt_of_eq t.isLt (show cfg0.N = 36 from N_0)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), PhiS_castSucc m c t]
  rw [show (dats m 0 c).leavesExact 0 t = owns (c : Thread nD τ) (ms0_0 t) fullShare ((dats m 0 c).after 0 t) from by
      unfold Dat.leavesExact; rw [show cfg0.idle 0 (cfg0.grid.coords t) = false from rfl], after0_0]
  rw [show (dats m 0 c).leavesExact 1 t = owns (c : Thread nD τ) (ms0_1 t) fullShare ((dats m 0 c).after 1 t) from by
      unfold Dat.leavesExact; rw [show cfg0.idle 1 (cfg0.grid.coords t) = false from rfl], after0_1]
  rw [show (dats m 0 c).leavesExact 2 t = owns (c : Thread nD τ) (ms0_2 t) fullShare ((dats m 0 c).after 2 t) from by
      unfold Dat.leavesExact; rw [show cfg0.idle 2 (cfg0.grid.coords t) = false from rfl], after0_2]
  rw [show (dats m 0 c).leavesExact 3 t = owns (c : Thread nD τ) (ms0_3 t) fullShare ((dats m 0 c).after 3 t) from by
      unfold Dat.leavesExact; rw [show cfg0.idle 3 (cfg0.grid.coords t) = false from rfl], after0_3]
  rw [show (dats m 0 c).leavesExact 4 t = owns (c : Thread nD τ) (ms0_4 t) fullShare ((dats m 0 c).after 4 t) from by
      unfold Dat.leavesExact; rw [show cfg0.idle 4 (cfg0.grid.coords t) = false from rfl], after0_4]
  rw [show (dats m 0 c).leavesExact 5 t = owns (c : Thread nD τ) (ms0_5 t) fullShare ((dats m 0 c).after 5 t) from by
      unfold Dat.leavesExact; rw [show cfg0.idle 5 (cfg0.grid.coords t) = false from rfl], after0_5]
  rw [show (dats m 0 c).leavesExact 6 t = owns (c : Thread nD τ) (ms0_6 t) fullShare ((dats m 0 c).after 6 t) from by
      unfold Dat.leavesExact; rw [show cfg0.idle 6 (cfg0.grid.coords t) = false from rfl], after0_6]
  rw [show (dats m 0 c).leavesExact 9 t = owns (c : Thread nD τ) (ms0_9 t) fullShare ((dats m 0 c).after 9 t) from by
      unfold Dat.leavesExact; rw [show cfg0.idle 9 (cfg0.grid.coords t) = false from rfl], after0_9]
  rw [show (dats m 0 c).leavesExact 10 t = owns (c : Thread nD τ) (ms0_10 t) fullShare ((dats m 0 c).after 10 t) from by
      unfold Dat.leavesExact; rw [show cfg0.idle 10 (cfg0.grid.coords t) = false from rfl], after0_10]
  by_cases hz : t.val = 0
  · rw [PhiS_zero m c _ _ hz, PhiA0_eq]
    obtain rfl : t = t0 := Fin.ext hz
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelA c (grid0.coords t0) _ _ _ _ _ _ _ _ _ _ _ _ _ _ _ _ _ _ _ _ _ _ _ _ _ _ _ _ _ _ _ _ _ _ ((hcond0_0 t0).mpr (by decide)) (iblk m c 0 t0) (iblk m c 1 t0) (iblk m c 2 t0) (iblk m c 3 t0) (iblk m c 4 t0) (iblk m c 5 t0) (fun _ => 0) (fun _ => 0) (fun _ => 0) (fun _ => 0) (fun _ => 0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t0); iexact H7
    isplitl [H8]; · iapply (leaves0_8 m c t0); iexact H8
    isplitl [H9]; · iexact H9
    iexact H10
  · rw [PhiS_pos m c _ _ hz]
    simp only [fun d => before0_7 m c t.val t.isLt hz d, fun d => before0_8 m c t.val t.isLt hz d]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (kernelB c (grid0.coords t) _ _ _ _ _ _ _ _ _ _ _ _ _ _ _ _ _ _ _ _ _ _ _ _ _ _ _ _ _ _ _ _ _ _ (fun h => hz (by have := (hcond0_0 t).mp h; omega)) (iblk m c 0 t) (iblk m c 1 t) (iblk m c 2 t) (iblk m c 3 t) (iblk m c 4 t) (iblk m c 5 t) (Gh (bX m c)) (Ghs2 (bX m c)) (bM m c) (Ghs (bX m c)) (Gsh (bS m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m c t); iexact H7
    isplitl [H8]; · iapply (leaves0_8 m c t); iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 36 := N_0; omega), PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexact HS3
    isplitl [HS4]
    · iexact HS4
    iexact HS5
  iexact Hg

set_option backward.isDefEq.respectTransparency.types false in
set_option maxHeartbeats 1600000 in
/-- The run: it ends, every array holds what the points left in it, and every semaphore counter is zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Val

end
-- ==== Proof.KBlk.lean ====
/- The five result arrays of the kernel, as functions of its arguments. -/
module

public import proofs.«01_k».proof.Proof.KFrame

public import Idealize.ShloMosaic.Lib.Pipeline.ValueKit

@[expose] public section

set_option maxRecDepth 16384

noncomputable section

namespace Cert.KernelIdeal.Val

open Cert.KernelIdeal Cert.KernelIdeal.Gen
open Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The magnitude of one weight row `w` under one row `g` of the modulation, with the row's weight scale `s`. -/
def wAmax (w g : Fin 2304 → EReal) (s : EReal) : EReal :=
  (Finset.univ.fold max (Ideal.ofBits .f32 0xFF800000#32) fun l : Fin 128 => max18 fun c => eabs (w (col c l) * g (col c l))) * s

/-- One entry of the modulation. -/
def modu (A1 : S2x2304.Idx → EReal) (b : Fin 2) (k : Fin 2304) : EReal := Ideal.ofBits .f32 0x3F800000#32 + A1 (ix2 b k)

/-- The magnitude of weight row `n` for sample `b`. -/
def aW (A1 : S2x2304.Idx → EReal) (A3 : S9216x2304.Idx → EReal) (A4 : S9216.Idx → EReal) (b : Fin 2) (n : Fin 9216) : EReal :=
  wAmax (fun k => A3 (ix2 n k)) (modu A1 b) (A4 (ix1 n))

/-- The weight codes. -/
def KC (A1 : S2x2304.Idx → EReal) (A3 : S9216x2304.Idx → EReal) (A4 : S9216.Idx → EReal) : S2x9216x2304.Idx → EReal := fun j =>
  clip (A3 (ix2 (j 1) (j 2)) * modu A1 (j 0) (j 2) * (kinv (aW A1 A3 A4 (j 0) (j 1)) * A4 (ix1 (j 1))))

/-- The weight scales. -/
def KS (A1 : S2x2304.Idx → EReal) (A3 : S9216x2304.Idx → EReal) (A4 : S9216.Idx → EReal) : S2x9216.Idx → EReal := fun j =>
  kscale (aW A1 A3 A4 (j 0) (j 1))

/-- The result. -/
def KY (A0 : S2x128x2304.Idx → EReal) (A1 A2 : S2x2304.Idx → EReal) (A3 : S9216x2304.Idx → EReal) (A4 A5 : S9216.Idx → EReal) :
    S2x128x9216.Idx → EReal := fun j =>
  (∑ k : Fin 2304, Gh A0 (ix3 (j 0) (j 1) k) * KC A1 A3 A4 (ix3 (j 0) (j 2) k))
      * Ghs2 A0 (ix2 (j 0) (j 1)) * KS A1 A3 A4 (ix2 (j 0) (j 2))
    + (((∑ k : Fin 2304, A2 (ix2 (j 0) k) * A3 (ix2 (j 2) k))
        + (∑ k : Fin 2304, (A2 (ix2 (j 0) k) - A2 (ix2 (j 0) k)) * A3 (ix2 (j 2) k))
        + (∑ k : Fin 2304, ((A2 (ix2 (j 0) k) - A2 (ix2 (j 0) k)) - (A2 (ix2 (j 0) k) - A2 (ix2 (j 0) k))) * A3 (ix2 (j 2) k)))
      * A4 (ix1 (j 2)) + A5 (ix1 (j 2)))

variable (m : (ℓ : Loc nD τ sig) → Buf (Elt Ideal) ℓ) (ρ : Dev nD → PrngReg)

/-- The six arguments. -/
abbrev A0 (c : Dev nD) : S2x128x2304.Idx → EReal := m ((c : Thread nD τ).loc main_arg0)
abbrev A1 (c : Dev nD) : S2x2304.Idx → EReal := m ((c : Thread nD τ).loc main_arg1)
abbrev A2 (c : Dev nD) : S2x2304.Idx → EReal := m ((c : Thread nD τ).loc main_arg2)
abbrev A3 (c : Dev nD) : S9216x2304.Idx → EReal := m ((c : Thread nD τ).loc main_arg3)
abbrev A4 (c : Dev nD) : S9216.Idx → EReal := m ((c : Thread nD τ).loc main_arg4)
abbrev A5 (c : Dev nD) : S9216.Idx → EReal := m ((c : Thread nD τ).loc main_arg5)

theorem ix (t : Fin cfg0.N) : win0_0.index t = ![0, 0, 0] ∧ win0_1.index t = ![0, 0] ∧ win0_2.index t = ![0, 0]
    ∧ win0_3.index t = ![t.val, 0] ∧ win0_4.index t = ![0, t.val] ∧ win0_5.index t = ![0, t.val]
    ∧ win0_6.index t = ![0, 0, t.val] ∧ win0_7.index t = ![0, 0, 0] ∧ win0_8.index t = ![0, 0]
    ∧ win0_9.index t = ![0, t.val, 0] ∧ win0_10.index t = ![0, t.val] :=
  (by decide +kernel : ∀ t : Fin grid0.N, win0_0.index t = ![0, 0, 0] ∧ win0_1.index t = ![0, 0] ∧ win0_2.index t = ![0, 0]
    ∧ win0_3.index t = ![t.val, 0] ∧ win0_4.index t = ![0, t.val] ∧ win0_5.index t = ![0, t.val]
    ∧ win0_6.index t = ![0, 0, t.val] ∧ win0_7.index t = ![0, 0, 0] ∧ win0_8.index t = ![0, 0]
    ∧ win0_9.index t = ![0, t.val, 0] ∧ win0_10.index t = ![0, t.val]) t

theorem row_lt (t : Fin cfg0.N) (r : Fin 256) : t.val * 256 + r.val < 9216 := by
  have : t.val < 36 := lt_of_lt_of_eq t.isLt (show cfg0.N = 36 from N_0); omega

/-- Row `r` of the block of point `t`. -/
abbrev gr (t : Fin cfg0.N) (r : Fin 256) : Fin 9216 := ⟨t.val * 256 + r.val, row_lt t r⟩

theorem iblk0 (c : Dev nD) (t : Fin cfg0.N) : (iblk m c 0 t : S2x128x2304.Idx → EReal) = A0 m c := by
  funext j
  have e := ix t
  blk_ext [iblk, V_main_arg0, e]
theorem iblk1 (c : Dev nD) (t : Fin cfg0.N) : (iblk m c 1 t : S2x2304.Idx → EReal) = A1 m c := by
  funext j
  have e := ix t
  blk_ext [iblk, V_main_arg1, e]
theorem iblk2 (c : Dev nD) (t : Fin cfg0.N) : (iblk m c 2 t : S2x2304.Idx → EReal) = A2 m c := by
  funext j
  have e := ix t
  blk_ext [iblk, V_main_arg2, e]
theorem iblk3 (c : Dev nD) (t : Fin cfg0.N) (r : Fin 256) (k : Fin 2304) :
    (iblk m c 3 t : S256x2304.Idx → EReal) (ix2 r k) = A3 m c (ix2 (gr t r) k) := by
  have e := ix t
  blk_ext [iblk, V_main_arg3, e]
theorem iblk4 (c : Dev nD) (t : Fin cfg0.N) (r : Fin 256) :
    (iblk m c 4 t : S1x256.Idx → EReal) (ix2 0 r) = A4 m c (ix1 (gr t r)) := by
  have e := ix t
  blk_simp [iblk, e]; entry_read; pointwise
  blk_ext [iblk, e]
theorem iblk5 (c : Dev nD) (t : Fin cfg0.N) (r : Fin 256) :
    (iblk m c 5 t : S1x256.Idx → EReal) (ix2 0 r) = A5 m c (ix1 (gr t r)) := by
  have e := ix t
  blk_simp [iblk, e]; entry_read; pointwise
  blk_ext [iblk, e]

end Cert.KernelIdeal.Val

end
-- ==== Proof.KValue.lean ====
/- The five result arrays of the kernel, as functions of its arguments. -/
module

public import proofs.«01_k».proof.Proof.KBlk

public import Idealize.ShloMosaic.Lib.Pipeline.ValueKit

@[expose] public section

set_option maxRecDepth 16384

noncomputable section

namespace Cert.KernelIdeal.Val

open Cert.KernelIdeal Cert.KernelIdeal.Gen
open Cert.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem bX_eq (c : Dev nD) : bX m c = A0 m c := iblk0 m c t0
theorem bS_eq (c : Dev nD) : bS m c = A2 m c := iblk2 m c t0
theorem bM_eq (c : Dev nD) : bM m c = GM (A1 m c) := congrArg GM (iblk1 m c t0)
theorem bW_eq (c : Dev nD) (t : Fin cfg0.N) : bW m c t = fun j => A3 m c (ix2 (gr t (j 0)) (j 1)) := by
  funext j
  obtain ⟨r, k, rfl⟩ := ex2 j
  exact iblk3 m c t r k
theorem bws_eq (c : Dev nD) (t : Fin cfg0.N) : bws m c t = fun j => A4 m c (ix1 (gr t (j 1))) := by
  funext j
  obtain ⟨z, r, rfl⟩ := ex2 j
  obtain rfl : z = 0 := Subsingleton.elim _ _
  exact iblk4 m c t r
theorem bbo_eq (c : Dev nD) (t : Fin cfg0.N) : bbo m c t = fun j => A5 m c (ix1 (gr t (j 1))) := by
  funext j
  obtain ⟨z, r, rfl⟩ := ex2 j
  obtain rfl : z = 0 := Subsingleton.elim _ _
  exact iblk5 m c t r

theorem oWC_eq (c : Dev nD) (t : Fin cfg0.N) (b : Fin 2) (r : Fin 256) (k : Fin 2304) :
    oWC m c t (ix3 b r k) = KC (A1 m c) (A3 m c) (A4 m c) (ix3 b (gr t r) k) := by
  unfold oWC
  rw [bW_eq, bM_eq, bws_eq]
  rfl

theorem oSC_eq (c : Dev nD) (t : Fin cfg0.N) (b : Fin 2) (r : Fin 256) :
    oSC m c t (ix2 b r) = KS (A1 m c) (A3 m c) (A4 m c) (ix2 b (gr t r)) := by
  unfold oSC
  rw [bW_eq, bM_eq, bws_eq]
  rfl

theorem Gsh_0 (S : S2x2304.Idx → EReal) (b : Fin 2) (k : Fin 2304) : Gsh S (ix2 ⟨b.val, by omega⟩ k) = S (ix2 b k) := by
  unfold Gsh
  rw [dif_pos (show ((ix2 (⟨b.val, by omega⟩ : Fin 16) k : S16x2304.Idx) 0).val < 2 from b.isLt)]
  rfl
theorem Gsh_2 (S : S2x2304.Idx → EReal) (b : Fin 2) (k : Fin 2304) :
    Gsh S (ix2 ⟨b.val + 2, by omega⟩ k) = S (ix2 b k) - S (ix2 b k) := by
  unfold Gsh
  rw [dif_neg (show ¬ ((ix2 (⟨b.val + 2, by omega⟩ : Fin 16) k : S16x2304.Idx) 0).val < 2 from by show ¬ b.val + 2 < 2; omega),
    dif_pos (show ((ix2 (⟨b.val + 2, by omega⟩ : Fin 16) k : S16x2304.Idx) 0).val - 2 < 2 from by show b.val + 2 - 2 < 2; omega)]
  rfl
theorem Gsh_4 (S : S2x2304.Idx → EReal) (b : Fin 2) (k : Fin 2304) :
    Gsh S (ix2 ⟨b.val + 4, by omega⟩ k) = (S (ix2 b k) - S (ix2 b k)) - (S (ix2 b k) - S (ix2 b k)) := by
  unfold Gsh
  rw [dif_neg (show ¬ ((ix2 (⟨b.val + 4, by omega⟩ : Fin 16) k : S16x2304.Idx) 0).val < 2 from by show ¬ b.val + 4 < 2; omega),
    dif_neg (show ¬ ((ix2 (⟨b.val + 4, by omega⟩ : Fin 16) k : S16x2304.Idx) 0).val - 2 < 2 from by show ¬ b.val + 4 - 2 < 2; omega),
    dif_pos (show ((ix2 (⟨b.val + 4, by omega⟩ : Fin 16) k : S16x2304.Idx) 0).val - 2 - 2 < 2 from by show b.val + 4 - 2 - 2 < 2; omega)]
  rfl

theorem oY_eq (c : Dev nD) (t : Fin cfg0.N) (b : Fin 2) (s : Fin 128) (r : Fin 256) :
    oY m c t (ix3 b s r) = KY (A0 m c) (A1 m c) (A2 m c) (A3 m c) (A4 m c) (A5 m c) (ix3 b s (gr t r)) := by
  have h1 : ∀ k, oWC m c t (ix3 b r k) = KC (A1 m c) (A3 m c) (A4 m c) (ix3 b (gr t r) k) := fun k => oWC_eq m c t b r k
  have h2 := oSC_eq m c t b r
  unfold oY
  generalize oWC m c t = WC at h1 ⊢
  generalize oSC m c t = SC at h2 ⊢
  rw [bW_eq, bX_eq, bS_eq, bws_eq, bbo_eq]
  have e0 : shd (Gsh (A2 m c)) (fun j => A3 m c (ix2 (gr t (j 0)) (j 1))) ⟨b.val, by omega⟩ r
      = ∑ k : Fin 2304, A2 m c (ix2 b k) * A3 m c (ix2 (gr t r) k) :=
    Finset.sum_congr rfl fun k _ => congrArg (· * A3 m c (ix2 (gr t r) k)) (Gsh_0 _ _ _)
  have e2 : shd (Gsh (A2 m c)) (fun j => A3 m c (ix2 (gr t (j 0)) (j 1))) ⟨b.val + 2, by omega⟩ r
      = ∑ k : Fin 2304, (A2 m c (ix2 b k) - A2 m c (ix2 b k)) * A3 m c (ix2 (gr t r) k) :=
    Finset.sum_congr rfl fun k _ => congrArg (· * A3 m c (ix2 (gr t r) k)) (Gsh_2 _ _ _)
  have e4 : shd (Gsh (A2 m c)) (fun j => A3 m c (ix2 (gr t (j 0)) (j 1))) ⟨b.val + 4, by omega⟩ r
      = ∑ k : Fin 2304, ((A2 m c (ix2 b k) - A2 m c (ix2 b k)) - (A2 m c (ix2 b k) - A2 m c (ix2 b k))) * A3 m c (ix2 (gr t r) k) :=
    Finset.sum_congr rfl fun k _ => congrArg (· * A3 m c (ix2 (gr t r) k)) (Gsh_4 _ _ _)
  have e : shT (Gsh (A2 m c)) (fun j => A3 m c (ix2 (gr t (j 0)) (j 1))) (fun j => A4 m c (ix1 (gr t (j 1)))) (fun j => A5 m c (ix1 (gr t (j 1)))) b r
      = ((∑ k : Fin 2304, A2 m c (ix2 b k) * A3 m c (ix2 (gr t r) k))
        + (∑ k : Fin 2304, (A2 m c (ix2 b k) - A2 m c (ix2 b k)) * A3 m c (ix2 (gr t r) k))
        + (∑ k : Fin 2304, ((A2 m c (ix2 b k) - A2 m c (ix2 b k)) - (A2 m c (ix2 b k) - A2 m c (ix2 b k))) * A3 m c (ix2 (gr t r) k)))
      * A4 m c (ix1 (gr t r)) + A5 m c (ix1 (gr t r)) := by
    unfold shT
    rw [e0, e2, e4]
    rfl
  have g : Gy (Gh (A0 m c)) WC (Ghs (A0 m c)) SC (Gsh (A2 m c)) (fun j => A3 m c (ix2 (gr t (j 0)) (j 1))) (fun j => A4 m c (ix1 (gr t (j 1)))) (fun j => A5 m c (ix1 (gr t (j 1)))) (ix3 b s r)
      = (∑ k : Fin 2304, Gh (A0 m c) (ix3 b s k) * WC (ix3 b r k)) * Ghs2 (A0 m c) (ix2 b s) * SC (ix2 b r)
        + shT (Gsh (A2 m c)) (fun j => A3 m c (ix2 (gr t (j 0)) (j 1))) (fun j => A4 m c (ix1 (gr t (j 1)))) (fun j => A5 m c (ix1 (gr t (j 1)))) b r := rfl
  rw [g, e, h2, Finset.sum_congr rfl fun k _ => congrArg (Gh (A0 m c) (ix3 b s k) * ·) (h1 k)]
  rfl

/-! ### The arrays after the run -/

theorem arr6 (c : Dev nD) : (dats m 0 c).arrAt 6 cfg0.N = KY (A0 m c) (A1 m c) (A2 m c) (A3 m c) (A4 m c) (A5 m c) := by
  refine (dats m 0 c).arrAt_eq_of_covers 6 _ (by decide +kernel) fun t hf y => ?_
  have e := ix t
  blk_simp; rw [after0_6]
  obtain ⟨b, s, r, rfl⟩ := ex3 (a := 2) (b := 128) (c := 256) y
  refine (oY_eq m c t b s r).trans (congrArg _ ?_)
  blk_ext [e]
theorem arr7 (c : Dev nD) : (dats m 0 c).arrAt 7 cfg0.N = Gh (A0 m c) := by
  refine (dats m 0 c).arrAt_eq_of_covers 7 _ (by decide +kernel) fun t hf y => ?_
  have e := ix t
  blk_simp; rw [after0_7, bX_eq]
  refine congrArg _ ?_
  blk_ext [e]
theorem arr8 (c : Dev nD) : (dats m 0 c).arrAt 8 cfg0.N = Ghs2 (A0 m c) := by
  refine (dats m 0 c).arrAt_eq_of_covers 8 _ (by decide +kernel) fun t hf y => ?_
  have e := ix t
  blk_simp; rw [after0_8, bX_eq]
  refine congrArg _ ?_
  blk_ext [e]
theorem arr9 (c : Dev nD) : (dats m 0 c).arrAt 9 cfg0.N = KC (A1 m c) (A3 m c) (A4 m c) := by
  refine (dats m 0 c).arrAt_eq_of_covers 9 _ (by decide +kernel) fun t hf y => ?_
  have e := ix t
  blk_simp; rw [after0_9]
  obtain ⟨b, r, k, rfl⟩ := ex3 (a := 2) (b := 256) (c := 2304) y
  refine (oWC_eq m c t b r k).trans (congrArg _ ?_)
  blk_ext [e]
theorem arr10 (c : Dev nD) : (dats m 0 c).arrAt 10 cfg0.N = KS (A1 m c) (A3 m c) (A4 m c) := by
  refine (dats m 0 c).arrAt_eq_of_covers 10 _ (by decide +kernel) fun t hf y => ?_
  have e := ix t
  blk_simp; rw [after0_10]
  obtain ⟨b, r, rfl⟩ := ex2 (a := 2) (b := 256) y
  refine (oSC_eq m c t b r).trans (congrArg _ ?_)
  blk_ext [e]

/-- The arguments end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main_quiescent m ρ))

/-- The arguments end as they were, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The results end as the functions of the arguments named above. -/
theorem results : θ_run defs (onTc (τ := τ) (main (F := Ideal))) ⟨m, fun _ => 0, ρ⟩ (fun r => ∀ c : Dev nD,
      r.2.mem ((c.tc : Thread nD τ).loc main_v2_0) = KY (A0 m c) (A1 m c) (A2 m c) (A3 m c) (A4 m c) (A5 m c)
      ∧ r.2.mem ((c.tc : Thread nD τ).loc main_v2_1) = Gh (A0 m c)
      ∧ r.2.mem ((c.tc : Thread nD τ).loc main_v2_2) = Ghs2 (A0 m c)
      ∧ r.2.mem ((c.tc : Thread nD τ).loc main_v2_3) = KC (A1 m c) (A3 m c) (A4 m c)
      ∧ r.2.mem ((c.tc : Thread nD τ).loc main_v2_4) = KS (A1 m c) (A3 m c) (A4 m c)) :=
  (θ_run defs _ _).mono (fun _ h c => ⟨((h.1 c).1 6).trans (arr6 m c), ((h.1 c).1 7).trans (arr7 m c), ((h.1 c).1 8).trans (arr8 m c),
    ((h.1 c).1 9).trans (arr9 m c), ((h.1 c).1 10).trans (arr10 m c)⟩) (run_main_quiescent m ρ)

end Cert.KernelIdeal.Val

end
-- ==== Proof.MMax.lean ====
/- The greatest magnitude of a row, taken two ways, and magnitudes of products on the extended reals. -/
module

public import proofs.«01_k».proof.Proof.KBlk

@[expose] public section

noncomputable section

namespace Cert.Math

open Idealize.ShloMosaic
open Cert.KernelIdeal.Val

theorem eabs_eq (x : EReal) : eabs x = ((x.abs : ENNReal) : EReal) := by
  unfold eabs
  induction x with
  | bot => simp
  | top => simp
  | coe r =>
    rw [EReal.abs_def, ← EReal.coe_neg, ← EReal.coe_strictMono.monotone.map_max, EReal.coe_ennreal_ofReal, max_eq_left (abs_nonneg r)]
    rfl

theorem eabs_mul (x y : EReal) : eabs (x * y) = eabs x * eabs y := by
  rw [eabs_eq, eabs_eq, eabs_eq, EReal.abs_mul, EReal.coe_ennreal_mul]

theorem eabs_of_nonneg (x : EReal) (h : 0 ≤ x) : eabs x = x :=
  max_eq_left (le_trans (EReal.neg_le_zero.mpr h) h)

theorem att {ι : Type} {g : ι → EReal} {a b : EReal} (ha : ∃ c, a = g c) (hb : ∃ c, b = g c) : ∃ c, max a b = g c := by
  rcases max_choice a b with h | h <;> rw [h] <;> assumption

theorem max18_att (g : Fin 18 → EReal) : ∃ c, max18 g = g c := by
  unfold max18
  repeat' refine att ?_ ?_
  all_goals exact ⟨_, rfl⟩

theorem le_max18 (g : Fin 18 → EReal) (c : Fin 18) : g c ≤ max18 g := by
  unfold max18
  fin_cases c <;> simp only [le_max_iff, Fin.mk_one, Fin.zero_eta, Fin.reduceFinMk, le_refl, true_or, or_true]

theorem fold_att {n : ℕ} [NeZero n] (f : Fin n → EReal) : ∃ k, Finset.univ.fold max (Ideal.ofBits .f32 0xFF800000#32) f = f k := by
  rw [w_bot]
  obtain ⟨k, -, h⟩ := Finset.exists_mem_eq_sup Finset.univ Finset.univ_nonempty f
  exact ⟨k, h⟩

theorem le_fold {n : ℕ} (f : Fin n → EReal) (k : Fin n) : f k ≤ Finset.univ.fold max (Ideal.ofBits .f32 0xFF800000#32) f :=
  Finset.le_fold_max _ |>.mpr (Or.inr ⟨k, Finset.mem_univ k, le_rfl⟩)

theorem c448_nonneg : 0 ≤ c448 := by
  unfold c448
  simp [Ideal.ofBits, Ideal.ieee, -EReal.coe_mul]

/-- The maximum over lanes of the maxima over columns, scaled afterwards, is the maximum over the row of the scaled entries. -/
theorem fold_lanes (e : Fin 2304 → EReal) (s : EReal) (hs : 0 ≤ s) :
    (Finset.univ.fold max (Ideal.ofBits .f32 0xFF800000#32) fun l : Fin 128 => max18 fun c => e (col c l)) * s
      = Finset.univ.fold max (Ideal.ofBits .f32 0xFF800000#32) fun k : Fin 2304 => e k * s := by
  apply le_antisymm
  · obtain ⟨l, hl⟩ := fold_att fun l : Fin 128 => max18 fun c => e (col c l)
    obtain ⟨c, hc⟩ := max18_att fun c => e (col c l)
    rw [hl, hc]
    exact le_fold (fun k : Fin 2304 => e k * s) (col c l)
  · obtain ⟨k, hk⟩ := fold_att fun k : Fin 2304 => e k * s
    rw [hk]
    refine mul_le_mul_of_nonneg_right ?_ hs
    have hc : k = col ⟨k.val / 128, by omega⟩ ⟨k.val % 128, Nat.mod_lt _ (by decide)⟩ := Fin.ext (by unfold col; show k.val = 128 * (k.val / 128) + k.val % 128; omega)
    refine le_trans ?_ (le_fold (fun l : Fin 128 => max18 fun c => e (col c l)) ⟨k.val % 128, Nat.mod_lt _ (by decide)⟩)
    refine le_trans (le_of_eq (congrArg e hc)) (le_max18 (fun c => e (col c ⟨k.val % 128, Nat.mod_lt _ (by decide)⟩)) ⟨k.val / 128, by omega⟩)

theorem rowMax_nonneg (v : Fin 2304 → EReal) : 0 ≤ rowMax v :=
  le_trans (eabs_nonneg (v 0)) (le_fold (fun k => eabs (v k)) 0)

theorem eabs_rowMax (v : Fin 2304 → EReal) : eabs (rowMax v * c448) = rowMax v * c448 :=
  eabs_of_nonneg _ (mul_nonneg (rowMax_nonneg v) c448_nonneg)

theorem eabs_wAmax (w g : Fin 2304 → EReal) (s : EReal) :
    eabs (wAmax w g s * c448) = rowMax (fun k => g k * (w k * s)) * c448 := by
  have h0 : 0 ≤ Finset.univ.fold max (Ideal.ofBits .f32 0xFF800000#32) fun l : Fin 128 => max18 fun c => eabs (w (col c l) * g (col c l)) := by
    obtain ⟨l, hl⟩ := fold_att fun l : Fin 128 => max18 fun c => eabs (w (col c l) * g (col c l))
    obtain ⟨c, hc⟩ := max18_att fun c => eabs (w (col c l) * g (col c l))
    rw [hl, hc]
    exact eabs_nonneg _
  rw [eabs_mul, eabs_of_nonneg _ c448_nonneg]
  unfold wAmax
  rw [eabs_mul, eabs_of_nonneg _ h0, fold_lanes (fun k => eabs (w k * g k)) (eabs s) (eabs_nonneg s)]
  unfold rowMax
  refine congrArg (fun f => Finset.univ.fold max (Ideal.ofBits .f32 0xFF800000#32) f * c448) (funext fun k => ?_)
  rw [← eabs_mul]
  exact congrArg eabs (by rw [mul_comm (w k) (g k), mul_assoc])

end Cert.Math

end
-- ==== Proof.RValue.lean ====
/- The five result arrays of the reference are those of the kernel. -/
module

public import proofs.«01_k».proof.Proof.MMax
public import proofs.«01_k».proof.Proof.Gen.ReferenceIdeal.Value
public import proofs.«01_k».proof.Proof.Gen.Pre_shift_finite

@[expose] public section

set_option maxRecDepth 16384

noncomputable section

namespace Cert.ReferenceIdeal.Val

open Cert.ReferenceIdeal Cert.ReferenceIdeal.Gen
open Cert.Math
open Cert.KernelIdeal.Val (lnRow rowMax clip Gh Ghs2 KC KS KY aW modu wAmax)
open Idealize.ShloMosaic Idealize.ShloMosaic.TcCoe Idealize.ShloMosaic.Tactic

/-- The natural logarithm of two, the value of the reference's named constant. -/
abbrev ln2 : EReal := ((Real.log 2 : ℝ) : EReal)

theorem named_ln2 : Named.named (F := Ideal) (φ := .f32) Cert.ReferenceIdeal.κ "ln_2" 0x3F317218#32 = ln2 :=
  IdealRules.named_const.ideal_named_scalar _ _ _ _ rfl

/-! ## The rows of the layer norm -/

theorem pay1_apply (v : Vec Ideal S2x128x2304 .bf16) (b : Fin 2) (t : Fin 128) (k : Fin 2304) :
    k0_pay1 (F := Ideal) v (ix3 b t k) = lnRow (fun k => v (ix3 b t k)) k := by
  pointwise [k0_pay1]
  rfl

/-- The power of two of an exponent, as the reference computes it. -/
def scaleE (x : EReal) : EReal := Scalar.select (Ideal.cmp .olt x (Ideal.ofBits .f32 0x43000000#32)) (Ideal.exp2 x) (Ideal.ofBits .f32 0x7F800000#32)

/-- Its reciprocal. -/
def invE (x : EReal) : EReal := Scalar.select (Ideal.cmp .olt x (Ideal.ofBits .f32 0x42FE0000#32)) (Ideal.exp2 (Ideal.ofBits .f32 0x00000000#32 - x)) (Ideal.ofBits .f32 0x00000000#32)

theorem scaleE_rexp (l r : EReal) : scaleE (rexp l r) = rscale l r := by
  unfold scaleE rscale
  rfl

theorem invE_rexp (l r : EReal) : invE (rexp l r) = rinv l r := by
  unfold invE rinv
  rfl

theorem mulf_read {S : Shape} (u v : FVec Ideal S .f32) (i : S.Idx) : mulf u v i = u i * v i := rfl

theorem exp_read {S : Shape} (r : FVec Ideal S .f32) (i : S.Idx) :
    select (andi (cmpf .oge r (broadcast S (Scalar.ofBits .f32 0x00800000#32))) (cmpf .olt r (broadcast S (Scalar.ofBits .f32 0x7F800000#32))))
      (addf (floor (divf (log r) (broadcast S (Named.named κ "ln_2" 0x3F317218#32)))) (broadcast S (Scalar.ofBits .f32 0x3F800000#32)))
      (broadcast S (Scalar.ofBits .f32 0x00000000#32)) i = rexp (Named.named (F := Ideal) (φ := .f32) κ "ln_2" 0x3F317218#32) (r i) := rfl

theorem scale_read {S : Shape} (e : FVec Ideal S .f32) (i : S.Idx) :
    select (cmpf .olt e (broadcast S (Scalar.ofBits .f32 0x43000000#32))) (exp2 e) (broadcast S (Scalar.ofBits .f32 0x7F800000#32)) i = scaleE (e i) := rfl

theorem inv_read {S : Shape} (e : FVec Ideal S .f32) (i : S.Idx) :
    select (cmpf .olt e (broadcast S (Scalar.ofBits .f32 0x42FE0000#32))) (exp2 (subf (broadcast S (Scalar.ofBits .f32 0x00000000#32)) e))
      (broadcast S (Scalar.ofBits .f32 0x00000000#32)) i = invE (e i) := rfl

theorem rowMax_read (p : FVec Ideal S2x128x2304 .f32) (b : Fin 2) (t : Fin 128) :
    shapeCast S2x128x1 (multiReduction .maximumf [2] S2x128 (absf p) 0xFF800000#32 reduces_S2x128x2304_S2x128 (.inl rfl) rfl) shapeCasts_S2x128_S2x128x1 (ix3 b t (0 : Fin 1))
      = rowMax fun k => p (ix3 b t k) := by
  pointwise
  rfl

theorem pay2_apply (v : Vec Ideal S2x128x2304 .bf16) (b : Fin 2) (t : Fin 128) :
    k0_pay2 (F := Ideal) v (ix3 b t (0 : Fin 1)) = rexp ln2 (rowMax (lnRow fun k => v (ix3 b t k)) * c448) := by
  refine (exp_read (mulf (shapeCast S2x128x1 (multiReduction .maximumf [2] S2x128 (absf (k0_pay1 v)) 0xFF800000#32 reduces_S2x128x2304_S2x128 (.inl rfl) rfl) shapeCasts_S2x128_S2x128x1) (broadcast S2x128x1 (Scalar.ofBits .f32 0x3B124925#32))) _).trans ?_
  rw [mulf_read, rowMax_read, named_ln2]
  simp only [pay1_apply]
  rfl

theorem pay3_apply (v : Vec Ideal S2x128x2304 .bf16) (b : Fin 2) (t : Fin 128) :
    k0_pay3 (F := Ideal) v (ix3 b t (0 : Fin 1)) = rscale ln2 (rowMax (lnRow fun k => v (ix3 b t k)) * c448) := by
  refine (scale_read (k0_pay2 v) _).trans ?_
  rw [pay2_apply, scaleE_rexp]

theorem pay5_read (p : FVec Ideal S2x128x2304 .f32) (e : FVec Ideal S2x128x1 .f32) (b : Fin 2) (t : Fin 128) (k : Fin 2304) :
    k0_pay5 (F := Ideal) p e k0_pay4 (ix3 b t k) = clip (p (ix3 b t k) * invE (e (ix3 b t (0 : Fin 1)))) := by
  pointwise [k0_pay5, k0_pay4, invE, clip]
  rfl

theorem pay5_apply (v : Vec Ideal S2x128x2304 .bf16) (b : Fin 2) (t : Fin 128) (k : Fin 2304) :
    k0_pay5 (F := Ideal) (k0_pay1 v) (k0_pay2 v) k0_pay4 (ix3 b t k)
      = clip (lnRow (fun k => v (ix3 b t k)) k * rinv ln2 (rowMax (lnRow fun k => v (ix3 b t k)) * c448)) := by
  rw [pay5_read, pay1_apply, pay2_apply, invE_rexp]

theorem g7_eq (a0 : Vec Ideal S2x128x2304 .bf16) (a1 a2 : Vec Ideal S2x2304 .f32) (a3 : Vec Ideal S9216x2304 .fp8e4m3) (a4 a5 : Vec Ideal S9216 .f32) :
    Value.G7 (F := Ideal) a0 a1 a2 a3 a4 a5 = Gh a0 := by
  funext j
  obtain ⟨b, t, k, rfl⟩ := Cert.KernelIdeal.Val.ex3 (a := 2) (b := 128) (c := 2304) j
  unfold Value.G7 k0_pay16
  rw [View.ld_unit_zero (S := S2x128x2304) Value.hz0 _ a0, pay5_apply]
  unfold Gh
  rw [(kscale_kinv _).2, eabs_rowMax]
  rfl

theorem g8_eq (a0 : Vec Ideal S2x128x2304 .bf16) (a1 a2 : Vec Ideal S2x2304 .f32) (a3 : Vec Ideal S9216x2304 .fp8e4m3) (a4 a5 : Vec Ideal S9216 .f32) :
    Value.G8 (F := Ideal) a0 a1 a2 a3 a4 a5 = Ghs2 a0 := by
  funext j
  obtain ⟨b, t, rfl⟩ := Cert.KernelIdeal.Val.ex2 (a := 2) (b := 128) j
  unfold Value.G8 k0_pay17
  rw [View.ld_unit_zero (S := S2x128x2304) Value.hz0 _ a0]
  unfold Ghs2 Cert.KernelIdeal.Val.Ghs
  rw [(kscale_kinv _).1, eabs_rowMax]
  refine Eq.trans ?_ (pay3_apply a0 b t)
  pointwise [k0_pay6]

/-! ## The modulated weights -/

theorem pay8_apply (w : Vec Ideal S9216x2304 .fp8e4m3) (s : Vec Ideal S9216 .f32) (g : Vec Ideal S2x2304 .f32) (b : Fin 2) (n : Fin 9216) (k : Fin 2304) :
    k0_pay8 (F := Ideal) w s g (ix3 b n k) = modu g b k * (w (ix2 n k) * s (ix1 n)) := by
  pointwise [k0_pay8, k0_pay7, modu]

/-- The magnitude of a row of modulated weights. -/
def rW (w : Vec Ideal S9216x2304 .fp8e4m3) (s : Vec Ideal S9216 .f32) (g : Vec Ideal S2x2304 .f32) (b : Fin 2) (n : Fin 9216) : EReal :=
  rowMax (fun k => modu g b k * (w (ix2 n k) * s (ix1 n))) * c448

theorem rowMaxW_read (p : FVec Ideal S2x9216x2304 .f32) (b : Fin 2) (n : Fin 9216) :
    shapeCast S2x9216x1 (multiReduction .maximumf [2] S2x9216 (absf p) 0xFF800000#32 reduces_S2x9216x2304_S2x9216 (.inl rfl) rfl) shapeCasts_S2x9216_S2x9216x1 (ix3 b n (0 : Fin 1))
      = rowMax fun k => p (ix3 b n k) := by
  pointwise
  rfl

theorem pay9_apply (w : Vec Ideal S9216x2304 .fp8e4m3) (s : Vec Ideal S9216 .f32) (g : Vec Ideal S2x2304 .f32) (b : Fin 2) (n : Fin 9216) :
    k0_pay9 (F := Ideal) w s g (ix3 b n (0 : Fin 1)) = rW w s g b n := by
  refine (mulf_read (shapeCast S2x9216x1 (multiReduction .maximumf [2] S2x9216 (absf (k0_pay8 w s g)) 0xFF800000#32 reduces_S2x9216x2304_S2x9216 (.inl rfl) rfl) shapeCasts_S2x9216_S2x9216x1) (broadcast S2x9216x1 (Scalar.ofBits .f32 0x3B124925#32)) _).trans ?_
  rw [rowMaxW_read]
  simp only [pay8_apply]
  unfold rW
  rfl

theorem pay12_apply (w : Vec Ideal S9216x2304 .fp8e4m3) (s : Vec Ideal S9216 .f32) (g : Vec Ideal S2x2304 .f32) (b : Fin 2) (n : Fin 9216) :
    k0_pay12 (F := Ideal) (k0_pay10 w s g) (k0_pay11 w s g) (ix3 b n (0 : Fin 1)) = rexp ln2 (rW w s g b n) := by
  refine (exp_read (k0_pay9 w s g) _).trans ?_
  rw [named_ln2, pay9_apply]

theorem pay13_read (v69 : FVec Ideal S2x9216x2304 .f32) (v79 : IVec S2x9216x1 1) (v85 : FVec Ideal S2x9216x1 .f32) (b : Fin 2) (n : Fin 9216) (k : Fin 2304) :
    k0_pay13 (F := Ideal) v69 v79 v85 (ix3 b n k) = clip (v69 (ix3 b n k) * invE (k0_pay12 v79 v85 (ix3 b n (0 : Fin 1)))) := by
  unfold k0_pay13
  generalize k0_pay12 v79 v85 = e
  pointwise [invE, clip]
  rfl

theorem pay14_read (v79 : IVec S2x9216x1 1) (v85 : FVec Ideal S2x9216x1 .f32) (b : Fin 2) (n : Fin 9216) :
    k0_pay14 (F := Ideal) v79 v85 (ix2 b n) = scaleE (k0_pay12 v79 v85 (ix3 b n (0 : Fin 1))) := by
  unfold k0_pay14
  generalize k0_pay12 v79 v85 = e
  pointwise [scaleE]
  rfl

theorem pay13_apply (w : Vec Ideal S9216x2304 .fp8e4m3) (s : Vec Ideal S9216 .f32) (g : Vec Ideal S2x2304 .f32) (b : Fin 2) (n : Fin 9216) (k : Fin 2304) :
    k0_pay13 (F := Ideal) (k0_pay8 w s g) (k0_pay10 w s g) (k0_pay11 w s g) (ix3 b n k)
      = clip (modu g b k * (w (ix2 n k) * s (ix1 n)) * rinv ln2 (rW w s g b n)) := by
  rw [pay13_read, pay12_apply, pay8_apply, invE_rexp]

theorem pay14_apply (w : Vec Ideal S9216x2304 .fp8e4m3) (s : Vec Ideal S9216 .f32) (g : Vec Ideal S2x2304 .f32) (b : Fin 2) (n : Fin 9216) :
    k0_pay14 (F := Ideal) (k0_pay10 w s g) (k0_pay11 w s g) (ix2 b n) = rscale ln2 (rW w s g b n) := by
  rw [pay14_read, pay12_apply, scaleE_rexp]

theorem rW_eq (w : Vec Ideal S9216x2304 .fp8e4m3) (s : Vec Ideal S9216 .f32) (g : Vec Ideal S2x2304 .f32) (b : Fin 2) (n : Fin 9216) :
    eabs (aW g w s b n * c448) = rW w s g b n := by
  unfold aW rW
  rw [eabs_wAmax]

theorem kc_eq (w : Vec Ideal S9216x2304 .fp8e4m3) (s : Vec Ideal S9216 .f32) (g : Vec Ideal S2x2304 .f32) :
    k0_pay13 (F := Ideal) (k0_pay8 w s g) (k0_pay10 w s g) (k0_pay11 w s g) = KC g w s := by
  funext j
  obtain ⟨b, n, k, rfl⟩ := Cert.KernelIdeal.Val.ex3 (a := 2) (b := 9216) (c := 2304) j
  rw [pay13_apply, ← rW_eq, ← (kscale_kinv _).2]
  refine congrArg clip ?_
  show modu g b k * (w (ix2 n k) * s (ix1 n)) * _ = w (ix2 n k) * modu g b k * (_ * s (ix1 n))
  ac_rfl

theorem ks_eq (w : Vec Ideal S9216x2304 .fp8e4m3) (s : Vec Ideal S9216 .f32) (g : Vec Ideal S2x2304 .f32) :
    k0_pay14 (F := Ideal) (k0_pay10 w s g) (k0_pay11 w s g) = KS g w s := by
  funext j
  obtain ⟨b, n, rfl⟩ := Cert.KernelIdeal.Val.ex2 (a := 2) (b := 9216) j
  rw [pay14_apply, ← rW_eq, ← (kscale_kinv _).1]
  rfl

theorem pay18_eq (a0 : Vec Ideal S2x128x2304 .bf16) (a1 a2 : Vec Ideal S2x2304 .f32) (a3 : Vec Ideal S9216x2304 .fp8e4m3) (a4 a5 : Vec Ideal S9216 .f32) :
    k0_pay18 (F := Ideal) a0 a1 a2 a3 a4 a5 = k0_pay8 a3 a4 a1 := by
  unfold k0_pay18
  rw [View.ld_unit_zero (S := S9216x2304) Value.hz3 _ a3, View.ld_unit_zero (S := S9216) Value.hz4 _ a4, View.ld_unit_zero (S := S2x2304) Value.hz1 _ a1]

theorem pay19_eq (a0 : Vec Ideal S2x128x2304 .bf16) (a1 a2 : Vec Ideal S2x2304 .f32) (a3 : Vec Ideal S9216x2304 .fp8e4m3) (a4 a5 : Vec Ideal S9216 .f32) :
    k0_pay19 (F := Ideal) a0 a1 a2 a3 a4 a5 = k0_pay10 a3 a4 a1 := by
  unfold k0_pay19
  rw [View.ld_unit_zero (S := S9216x2304) Value.hz3 _ a3, View.ld_unit_zero (S := S9216) Value.hz4 _ a4, View.ld_unit_zero (S := S2x2304) Value.hz1 _ a1]

theorem pay20_eq (a0 : Vec Ideal S2x128x2304 .bf16) (a1 a2 : Vec Ideal S2x2304 .f32) (a3 : Vec Ideal S9216x2304 .fp8e4m3) (a4 a5 : Vec Ideal S9216 .f32) :
    k0_pay20 (F := Ideal) a0 a1 a2 a3 a4 a5 = k0_pay11 a3 a4 a1 := by
  unfold k0_pay20
  rw [View.ld_unit_zero (S := S9216x2304) Value.hz3 _ a3, View.ld_unit_zero (S := S9216) Value.hz4 _ a4, View.ld_unit_zero (S := S2x2304) Value.hz1 _ a1]

theorem g9_eq (a0 : Vec Ideal S2x128x2304 .bf16) (a1 a2 : Vec Ideal S2x2304 .f32) (a3 : Vec Ideal S9216x2304 .fp8e4m3) (a4 a5 : Vec Ideal S9216 .f32) :
    Value.G9 (F := Ideal) a0 a1 a2 a3 a4 a5 = KC a1 a3 a4 := by
  unfold Value.G9
  rw [pay18_eq, pay19_eq, pay20_eq, kc_eq]

theorem g10_eq (a0 : Vec Ideal S2x128x2304 .bf16) (a1 a2 : Vec Ideal S2x2304 .f32) (a3 : Vec Ideal S9216x2304 .fp8e4m3) (a4 a5 : Vec Ideal S9216 .f32) :
    Value.G10 (F := Ideal) a0 a1 a2 a3 a4 a5 = KS a1 a3 a4 := by
  unfold Value.G10
  rw [pay19_eq, pay20_eq, ks_eq]

/-! ## The product -/

/-- The reference's result from its codes and scales. -/
def ry (h : S2x128x2304.Idx → EReal) (hs : S2x128.Idx → EReal) (c : S2x9216x2304.Idx → EReal) (cs : S2x9216.Idx → EReal)
    (w : S9216x2304.Idx → EReal) (s d : S9216.Idx → EReal) (e : S2x2304.Idx → EReal) (b : Fin 2) (t : Fin 128) (n : Fin 9216) : EReal :=
  (∑ k : Fin 2304, h (ix3 b t k) * c (ix3 b n k)) * hs (ix2 b t) * cs (ix2 b n)
    + ((∑ k : Fin 2304, e (ix2 b k) * w (ix2 n k)) * s (ix1 n) + d (ix1 n))

theorem pay15_apply (v54 : FVec Ideal S2x128x2304 .fp8e4m3) (v55 : FVec Ideal S2x128 .f32) (v57 : FVec Ideal S9216x2304 .f32) (v58 : Vec Ideal S9216 .f32)
    (v69 : FVec Ideal S2x9216x2304 .f32) (v79 : IVec S2x9216x1 1) (v85 : FVec Ideal S2x9216x1 .f32) (v109 : Vec Ideal S2x2304 .f32) (v114 : Vec Ideal S9216 .f32)
    (b : Fin 2) (t : Fin 128) (n : Fin 9216) :
    k0_pay15 (F := Ideal) v54 v55 v57 v58 v69 v79 v85 v109 v114 (ix3 b t n)
      = ry v54 v55 (k0_pay13 v69 v79 v85) (k0_pay14 v79 v85) v57 v58 v114 v109 b t n := by
  pointwise [k0_pay15]
  rfl

theorem sub_self_of_finite (x : EReal) (h : eabs x < ⊤) : x - x = 0 := by
  unfold eabs at h
  induction x with
  | bot => simp at h
  | top => simp at h
  | coe r => rw [← EReal.coe_sub, sub_self, EReal.coe_zero]

theorem g6_eq (a0 : Vec Ideal S2x128x2304 .bf16) (a1 a2 : Vec Ideal S2x2304 .f32) (a3 : Vec Ideal S9216x2304 .fp8e4m3) (a4 a5 : Vec Ideal S9216 .f32)
    (hf : ∀ i, eabs (a2 i) < ⊤) :
    Value.G6 (F := Ideal) a0 a1 a2 a3 a4 a5 = KY a0 a1 a2 a3 a4 a5 := by
  have h7 := g7_eq a0 a1 a2 a3 a4 a5
  have h8 := g8_eq a0 a1 a2 a3 a4 a5
  unfold Value.G7 at h7
  unfold Value.G8 at h8
  funext j
  obtain ⟨b, t, n, rfl⟩ := Cert.KernelIdeal.Val.ex3 (a := 2) (b := 128) (c := 9216) j
  unfold Value.G6
  rw [pay15_apply, h7, h8, pay18_eq, pay19_eq, pay20_eq, kc_eq, ks_eq]
  have h0 : ∀ k : Fin 2304, a2 (ix2 b k) - a2 (ix2 b k) = 0 := fun k => sub_self_of_finite _ (hf _)
  unfold KY
  show _ = (∑ k : Fin 2304, Gh a0 (ix3 b t k) * KC a1 a3 a4 (ix3 b n k)) * Ghs2 a0 (ix2 b t) * KS a1 a3 a4 (ix2 b n)
    + (((∑ k : Fin 2304, a2 (ix2 b k) * a3 (ix2 n k)) + (∑ k : Fin 2304, (a2 (ix2 b k) - a2 (ix2 b k)) * a3 (ix2 n k))
      + (∑ k : Fin 2304, ((a2 (ix2 b k) - a2 (ix2 b k)) - (a2 (ix2 b k) - a2 (ix2 b k))) * a3 (ix2 n k))) * a4 (ix1 n) + a5 (ix1 n))
  simp only [h0, sub_zero, zero_mul, Finset.sum_const_zero, add_zero]
  rfl

/-! ## The precondition -/

/-- The precondition says that every entry of the shift is finite. -/
theorem finite_of_pre (a0 : Vec Ideal S2x128x2304 .bf16) (a1 a2 : Vec Ideal S2x2304 .f32) (a3 : Vec Ideal S9216x2304 .fp8e4m3) (a4 a5 : Vec Ideal S9216 .f32)
    (h : ∀ i, Cert.Pre_shift_finite.fn (F := Ideal) a0 a1 a2 a3 a4 a5 i = 1#1) : ∀ i, eabs (a2 i) < ⊤ := by
  intro i
  have hi := h i
  obtain ⟨b, k, rfl⟩ := Cert.KernelIdeal.Val.ex2 (a := 2) (b := 2304) i
  have e : Cert.Pre_shift_finite.fn (F := Ideal) a0 a1 a2 a3 a4 a5 (ix2 b k) = Ideal.cmp .olt (eabs (a2 (ix2 b k))) (Ideal.ofBits .f32 0x7F800000#32) := by
    pointwise [Cert.Pre_shift_finite.fn]
    rfl
  rw [e, w_inf] at hi
  by_contra hc
  simp [Ideal.cmp, hc] at hi

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_shift_finite
public import proofs.«01_k».proof.Proof.FFrame
public import proofs.«01_k».proof.Proof.KValue
public import proofs.«01_k».proof.Proof.RValue
public import Idealize.ShloMosaic.Adequacy
public import Idealize.ShloMosaic.Init

@[expose] public section

noncomputable section

namespace Cert.Proof

open Idealize.ShloMosaic Idealize.SL.Sem Cert.Kernel

open Cert.KernelIdeal.Val (KY Gh Ghs2 KC KS A0 A1 A2 A3 A4 A5)

/-- From memories that agree on the arguments, with every entry of the shift finite, the kernel and the reference end with
    the same five results. -/
theorem algebraic : Cert.algebraic_KernelIdeal_ReferenceIdeal_pre_shift_finite := by
  intro m g m' g' hpre hag
  refine ⟨fun c => KY (A0 m c) (A1 m c) (A2 m c) (A3 m c) (A4 m c) (A5 m c), fun c => Gh (A0 m c), fun c => Ghs2 (A0 m c),
    fun c => KC (A1 m c) (A3 m c) (A4 m c), fun c => KS (A1 m c) (A3 m c) (A4 m c), ?_, ?_⟩
  · refine θ_run_mono (θ_run_and (Cert.KernelIdeal.Val.results m g) (Cert.KernelIdeal.Val.unchanged m g)) fun r h c => ?_
    obtain ⟨h0, h1, h2, h3, h4⟩ := h.1 c
    exact ⟨h0, h1, h2, h3, h4, h.2 c⟩
  · refine θ_run_mono (Cert.ReferenceIdeal.Value.run (F := Ideal) m' g') fun r h c => ?_
    obtain ⟨h0, h1, h2, h3, h4, hk⟩ := h c
    obtain ⟨e0, e1, e2, e3, e4, e5⟩ := hag c
    have hf := Cert.ReferenceIdeal.Val.finite_of_pre (A0 m c) (A1 m c) (A2 m c) (A3 m c) (A4 m c) (A5 m c) (fun i => congrFun (hpre c) i)
    refine ⟨h0.trans ?_, h1.trans ?_, h2.trans ?_, h3.trans ?_, h4.trans ?_, hk⟩
    · rw [e0, e1, e2, e3, e4, e5]
      exact Cert.ReferenceIdeal.Val.g6_eq _ _ _ _ _ _ hf
    · rw [e0, e1, e2, e3, e4, e5]
      exact Cert.ReferenceIdeal.Val.g7_eq _ _ _ _ _ _
    · rw [e0, e1, e2, e3, e4, e5]
      exact Cert.ReferenceIdeal.Val.g8_eq _ _ _ _ _ _
    · rw [e0, e1, e2, e3, e4, e5]
      exact Cert.ReferenceIdeal.Val.g9_eq _ _ _ _ _ _
    · rw [e0, e1, e2, e3, e4, e5]
      exact Cert.ReferenceIdeal.Val.g10_eq _ _ _ _ _ _

theorem claim : Cert.Claim := ⟨Cert.Kernel.Gen.facts, Cert.KernelIdeal.Gen.facts, Cert.ReferenceIdeal.Gen.facts, Cert.Reference.Gen.facts, Cert.Pre_shift_finite.Gen.facts,
  fun m g _ => Cert.Kernel.Own.frame m g,
  fun m g _ => Cert.KernelIdeal.Val.frame m g,
  fun m g _ => Cert.KernelIdeal.Val.frame m g,
  fun m g _ => Cert.ReferenceIdeal.Gen.frame m g,
  fun m g _ => Cert.ReferenceIdeal.Gen.frame m g,
  fun m g _ => Cert.Reference.Gen.frame m g,
  trivial,
  IdealRules.named_const.statement Cert.ReferenceIdeal.κ "ln_2" .f32 0x3F317218#32 _ rfl,
  algebraic⟩

end Cert.Proof

end
